-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_actions_in_range [hPre_actions_in_range : Cert.Pre_actions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_actions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_actions_in_range [hPre_actions_in_range : Cert.Pre_actions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_actions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_actions_in_range [hKernelIdeal : Cert.KernelIdeal.Facts] [hPre_actions_in_range : Cert.Pre_actions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_actions_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_actions_in_range [hReferenceIdeal : Cert.ReferenceIdeal.Facts] [hPre_actions_in_range : Cert.Pre_actions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_actions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_actions_in_range [hKernelIdeal : Cert.KernelIdeal.Facts] [hReferenceIdeal : Cert.ReferenceIdeal.Facts] [hPre_actions_in_range : Cert.Pre_actions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_actions_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_actions_in_range : Cert.Pre_actions_in_range.Facts),
    quiescent_Kernel (hKernel := hKernel)
    ∧ quiescent_KernelIdeal (hKernelIdeal := hKernelIdeal)
    ∧ quiescent_KernelIdeal_pre_actions_in_range (hKernelIdeal := hKernelIdeal) (hPre_actions_in_range := hPre_actions_in_range)
    ∧ quiescent_ReferenceIdeal (hReferenceIdeal := hReferenceIdeal)
    ∧ quiescent_ReferenceIdeal_pre_actions_in_range (hReferenceIdeal := hReferenceIdeal) (hPre_actions_in_range := hPre_actions_in_range)
    ∧ preserves_Kernel_KernelIdeal
    ∧ algebraic_KernelIdeal_ReferenceIdeal_pre_actions_in_range (hKernelIdeal := hKernelIdeal) (hReferenceIdeal := hReferenceIdeal) (hPre_actions_in_range := hPre_actions_in_range)
-- ==== Pre_actions_in_range.lean ====
abbrev S128x1024x1024 : Shape := ⟨3, ![128, 1024, 1024]⟩
abbrev S128x1024 : Shape := ⟨2, ![128, 1024]⟩
abbrev S128 : Shape := ⟨1, ![128]⟩
abbrev S32x1024x1024 : Shape := ⟨3, ![32, 1024, 1024]⟩
abbrev S32x1024 : Shape := ⟨2, ![32, 1024]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S128x1024x1024 .f32) (main_arg1 : FVec F S128x1024 .f32) (main_arg2 : IVec S128x1024 1) (main_arg3 : IVec S128 32) (main_arg4 : FVec F S32x1024x1024 .f32) (main_arg5 : FVec F S32x1024 .f32) : IVec S128 1 :=
  let main_c : IVec S_ 32 := constantI S_ 32 0#32
  let main_v0 : IVec S128 32 := broadcastInDim S128 ![] bcast_S_S128 main_c
  let main_v1 : IVec S128 1 := cmpi .sge main_arg3 main_v0
  let main_c_0 : IVec S_ 32 := constantI S_ 32 32#32
  let main_v2 : IVec S128 32 := broadcastInDim S128 ![] bcast_S_S128 main_c_0
  let main_v3 : IVec S128 1 := cmpi .slt main_arg3 main_v2
  let main_v4 : IVec S128 1 := andi main_v1 main_v3
  main_v4
-- ==== Kernel.lean ====
abbrev S128x1024x1024 : Shape := ⟨3, ![128, 1024, 1024]⟩
abbrev S128x1024 : Shape := ⟨2, ![128, 1024]⟩
abbrev S128 : Shape := ⟨1, ![128]⟩
abbrev S32x1024x1024 : Shape := ⟨3, ![32, 1024, 1024]⟩
abbrev S32x1024 : Shape := ⟨2, ![32, 1024]⟩
abbrev S128x1 : Shape := ⟨2, ![128, 1]⟩
abbrev S32x1x1024 : Shape := ⟨3, ![32, 1, 1024]⟩
abbrev S32x4x2x512x1024 : Shape := ⟨5, ![32, 4, 2, 512, 1024]⟩
abbrev S32x4x1024 : Shape := ⟨3, ![32, 4, 1024]⟩
abbrev S1x1024x1024 : Shape := ⟨3, ![1, 1024, 1024]⟩
abbrev S1x4x1x512x1024 : Shape := ⟨5, ![1, 4, 1, 512, 1024]⟩
abbrev S1024x1024 : Shape := ⟨2, ![1024, 1024]⟩
abbrev S1x1x1024 : Shape := ⟨3, ![1, 1, 1024]⟩
abbrev S1x1024 : Shape := ⟨2, ![1, 1024]⟩
abbrev S1x4x1024 : Shape := ⟨3, ![1, 4, 1024]⟩
abbrev S4x1024 : Shape := ⟨2, ![4, 1024]⟩
abbrev S1x1x1x512x1024 : Shape := ⟨5, ![1, 1, 1, 512, 1024]⟩
abbrev S512x1024 : Shape := ⟨2, ![512, 1024]⟩
abbrev S1x512 : Shape := ⟨2, ![1, 512]⟩
abbrev S4x512 : Shape := ⟨2, ![4, 512]⟩
abbrev S4 : Shape := ⟨1, ![4]⟩
abbrev S4x1 : Shape := ⟨2, ![4, 1]⟩

abbrev nBuf : Space → Nat
  | .hbm => 12
  | .vmem => 12
  | .smem => 0
  | _ => 0

abbrev bufTy : (tb : Table) → Fin (tcTables nBuf tb) → BufTy
  | .hbm, ⟨0, _⟩ => ⟨S128x1024x1024, .f32⟩
  | .hbm, ⟨1, _⟩ => ⟨S128x1024, .f32⟩
  | .hbm, ⟨2, _⟩ => ⟨S128x1024, .i1⟩
  | .hbm, ⟨3, _⟩ => ⟨S128, .i32⟩
  | .hbm, ⟨4, _⟩ => ⟨S32x1024x1024, .f32⟩
  | .hbm, ⟨5, _⟩ => ⟨S32x1024, .f32⟩
  | .hbm, ⟨6, _⟩ => ⟨S128x1, .i32⟩
  | .hbm, ⟨7, _⟩ => ⟨S32x1x1024, .f32⟩
  | .hbm, ⟨8, _⟩ => ⟨S32x4x2x512x1024, .f32⟩
  | .hbm, ⟨9, _⟩ => ⟨S128x1024, .i32⟩
  | .hbm, ⟨10, _⟩ => ⟨S32x4x1024, .i32⟩
  | .hbm, ⟨11, _⟩ => ⟨S32x4x1024, .f32⟩
  | .local _ .vmem, ⟨0, _⟩ => ⟨S128x1, .i32⟩
  | .local _ .vmem, ⟨1, _⟩ => ⟨S128x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S32x1x1024, .f32⟩
  | .local _ .vmem, ⟨5, _⟩ => ⟨S1x4x1x512x1024, .f32⟩
  | .local _ .vmem, ⟨6, _⟩ => ⟨S1x4x1x512x1024, .f32⟩
  | .local _ .vmem, ⟨7, _⟩ => ⟨S1x4x1x512x1024, .f32⟩
  | .local _ .vmem, ⟨8, _⟩ => ⟨S1x4x1x512x1024, .f32⟩
  | .local _ .vmem, ⟨9, _⟩ => ⟨S32x4x1024, .i32⟩
  | .local _ .vmem, ⟨10, _⟩ => ⟨S32x4x1024, .f32⟩
  | .local _ .vmem, ⟨11, _⟩ => ⟨S32x4x1024, .f32⟩
  | _, _ => ⟨S128x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v21 : Index := Scalar.indexCast arg0
  let c0_11 : Index := 0#32
  let c0_12 : Index := 0#32
  ![v21.toNat, 0, 0]
def k0_cond3 (i : grid0.Coords) : BitVec 1 :=
  let arg0 : BitVec 32 := BitVec.ofNat 32 (i 0).val
  let c32_i32_2 : BitVec 32 := 32#32
  let v6 : BitVec 1 := Scalar.cmpi .sge arg0 c32_i32_2
  let v7 : BitVec 32 := Scalar.extui v6
  let c0_i32_3 : BitVec 32 := 0#32
  let v8 : BitVec 1 := Scalar.cmpi .ne v7 c0_i32_3
  v8

def k0_off2 (i : grid0.Coords) : Fin 3 → Nat :=
  let arg0 : BitVec 32 := BitVec.ofNat 32 (i 0).val
  let c32_i32_4 : BitVec 32 := 32#32
  let v9 : BitVec 32 := Scalar.subi arg0 c32_i32_4
  let v10 : Index := Scalar.indexCast v9
  let c0 : Index := 0#32
  let c0_5 : Index := 0#32
  ![v10.toNat, 0, 0]
def k0_cond4 (i : grid0.Coords) : BitVec 1 :=
  let arg0 : BitVec 32 := BitVec.ofNat 32 (i 0).val
  let c32_i32_4 : BitVec 32 := 32#32
  let v9 : BitVec 32 := Scalar.subi arg0 c32_i32_4
  let c1_i32 : BitVec 32 := 1#32
  let v52 : BitVec 1 := Scalar.cmpi .sge v9 c1_i32
  let v53 : BitVec 32 := Scalar.extui v52
  let c0_i32_52 : BitVec 32 := 0#32
  let v54 : BitVec 1 := Scalar.cmpi .ne v53 c0_i32_52
  v54

def k0_off3 (i : grid0.Coords) : Fin 3 → Nat :=
  let arg0 : BitVec 32 := BitVec.ofNat 32 (i 0).val
  let c32_i32_4 : BitVec 32 := 32#32
  let v9 : BitVec 32 := Scalar.subi arg0 c32_i32_4
  let c1_i32_54 : BitVec 32 := 1#32
  let v58 : BitVec 32 := Scalar.subi v9 c1_i32_54
  let v59 : Index := Scalar.indexCast v58
  let c0_55 : Index := 0#32
  let c0_56 : Index := 0#32
  ![v59.toNat, 0, 0]
def k0_cond5 (i : grid0.Coords) : BitVec 1 :=
  let arg0 : BitVec 32 := BitVec.ofNat 32 (i 0).val
  let c32_i32_4 : BitVec 32 := 32#32
  let v9 : BitVec 32 := Scalar.subi arg0 c32_i32_4
  let c31_i32 : BitVec 32 := 31#32
  let v55 : BitVec 1 := Scalar.cmpi .eq v9 c31_i32
  let v56 : BitVec 32 := Scalar.extui v55
  let c0_i32_53 : BitVec 32 := 0#32
  let v57 : BitVec 1 := Scalar.cmpi .ne v56 c0_i32_53
  v57

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 5 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![v1.toNat, c0_i32_0.toNat, c0_i32_1.toNat, c0_i32_2.toNat, c0_i32_3.toNat]

def cc0_transform_5 (i : grid0.Coords) : Fin 5 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c1_i32 : BitVec 32 := 1#32
  let c0_i32_1 : BitVec 32 := 0#32
  let c0_i32_2 : BitVec 32 := 0#32
  let c0_i32_3 : BitVec 32 := 0#32
  ![v1.toNat, c0_i32_0.toNat, c1_i32.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x4x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S128x1024x1024 : Shape := ⟨3, ![128, 1024, 1024]⟩
abbrev S128x1024 : Shape := ⟨2, ![128, 1024]⟩
abbrev S128 : Shape := ⟨1, ![128]⟩
abbrev S32x1024x1024 : Shape := ⟨3, ![32, 1024, 1024]⟩
abbrev S32x1024 : Shape := ⟨2, ![32, 1024]⟩
abbrev S_ : Shape := ⟨0, ![]⟩
abbrev S128x1 : Shape := ⟨2, ![128, 1]⟩
abbrev S32x4x1024 : Shape := ⟨3, ![32, 4, 1024]⟩

abbrev nBuf : Space → Nat
  | .hbm => 47
  | .vmem => 0
  | .smem => 0
  | _ => 0

abbrev bufTy : (tb : Table) → Fin (tcTables nBuf tb) → BufTy
  | .hbm, ⟨0, _⟩ => ⟨S128x1024x1024, .f32⟩
  | .hbm, ⟨1, _⟩ => ⟨S128x1024, .f32⟩
  | .hbm, ⟨2, _⟩ => ⟨S128x1024, .i1⟩
  | .hbm, ⟨3, _⟩ => ⟨S128, .i32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S128x1024x1024, .f32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128x1, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S128x1, .f32⟩
  | .hbm, ⟨44, _⟩ => ⟨S128x1024, .f32⟩
  | .hbm, ⟨45, _⟩ => ⟨S128x1024, .f32⟩
  | .hbm, ⟨46, _⟩ => ⟨S32x4x1024, .f32⟩
  | _, _ => ⟨S128x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v18 : Ref sig .tc := ⟨.hbm, 45, rfl⟩
abbrev main_v19 : Ref sig .tc := ⟨.hbm, 46, rfl⟩

abbrev nD : Nat := 1
abbrev τ : Topo := Topo.v7x

variable {F : FTy → Type} [FloatOps F]
-- ==== Proof.KernelStep.lean ====
/-
  What one grid point of the kernel does to its windows, as triples: the weight points (the first 32) add a term to the
  scratch, the score points (the last 32) write one row of scores, turn the row before it into log-softmax, and at the
  last point turn the last row as well. Stated for memrefs and contents that are variables.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-! ## The branch conditions and the row offsets, over the grid -/

/-- The first branch's condition, as the body spells it: the point is the first. -/
abbrev cond1 (i : grid0.Coords) : BitVec 1 :=
  Scalar.cmpi .ne (Scalar.extui (Scalar.cmpi .eq (BitVec.ofNat 32 (i 0).val) 0#32) : BitVec 32) 0#32

theorem cond1_iff : ∀ i : grid0.Coords, cond1 i = 1#1 ↔ (i 0).val = 0 := by decide +kernel
theorem cond2_iff : ∀ i : grid0.Coords, k0_cond2 i = 1#1 ↔ (i 0).val < 32 := by decide +kernel
theorem cond3_iff : ∀ i : grid0.Coords, k0_cond3 i = 1#1 ↔ 32 ≤ (i 0).val := by decide +kernel
theorem cond4_iff : ∀ i : grid0.Coords, 32 ≤ (i 0).val → (k0_cond4 i = 1#1 ↔ 33 ≤ (i 0).val) := by decide +kernel
theorem cond5_iff : ∀ i : grid0.Coords, 32 ≤ (i 0).val → (k0_cond5 i = 1#1 ↔ (i 0).val = 63) := by decide +kernel

/-- A score point's row: the point less 32. -/
theorem off2_eq : ∀ i : grid0.Coords, 32 ≤ (i 0).val → k0_off2 i = ![(i 0).val - 32, 0, 0] := by decide +kernel
/-- The row before it. -/
theorem off3_eq : ∀ i : grid0.Coords, 33 ≤ (i 0).val → k0_off3 i = ![(i 0).val - 33, 0, 0] := by decide +kernel

/-! ## Rows of the scratch, the mask and the output -/

section Rows

variable {α : Type}

theorem row_inb (r : Fin 32) : ∀ a, (![r.val, 0, 0] : Fin 3 → ℕ) a + S1x4x1024.size a ≤ S32x4x1024.size a := by
  intro a; have := r.isLt; fin_cases a <;> simp <;> omega

/-- Row `r` of an array of 32 rows. -/
def rowOf (X : S32x4x1024.Idx → α) (r : Fin 32) : S1x4x1024.Idx → α := VecWindow.window X ![r.val, 0, 0] S1x4x1024.size (row_inb r)

/-- The array with `w` as its row `r`. -/
def putRow (X : S32x4x1024.Idx → α) (r : Fin 32) (w : S1x4x1024.Idx → α) : S32x4x1024.Idx → α := VecWindow.put X ![r.val, 0, 0] S1x4x1024.size w

theorem rowOf_putRow (X : S32x4x1024.Idx → α) (r : Fin 32) (w : S1x4x1024.Idx → α) : rowOf (putRow X r w) r = w :=
  VecWindow.window_put_same X _ _ (row_inb r) w

theorem rowOf_putRow_ne (X : S32x4x1024.Idx → α) (r s : Fin 32) (w : S1x4x1024.Idx → α) (h : s ≠ r) :
    rowOf (putRow X r w) s = rowOf X s :=
  VecWindow.window_put_of_disjoint X _ _ _ _ (row_inb s) w (0 : Fin 3) (by
    have : s.val ≠ r.val := fun e => h (Fin.ext e)
    show s.val + 1 ≤ r.val ∨ r.val + 1 ≤ s.val
    omega)

theorem slab_inb (k : Fin 4) : ∀ a, (![0, k.val, 0, 0, 0] : Fin 5 → ℕ) a + S1x1x1x512x1024.size a ≤ S1x4x1x512x1024.size a := by
  intro a; have := k.isLt; fin_cases a <;> simp <;> omega

/-- Sample `k` of a block of four samples. -/
def slabOf (X : S1x4x1x512x1024.Idx → α) (k : Fin 4) : S1x1x1x512x1024.Idx → α :=
  VecWindow.window X ![0, k.val, 0, 0, 0] S1x1x1x512x1024.size (slab_inb k)

end Rows

/-- The scores of four samples, from their row of the scratch and the two halves of their block of `x`. -/
def scoreRow (v : Vec F S1x4x1024 .f32) (X5 X6 : S1x4x1x512x1024.Idx → Elt F .f32) : Vec F S1x4x1024 .f32 :=
  k0_pay3 (k0_pay6 v) (k0_pay7 v (slabOf X5 0) (slabOf X5 1) (slabOf X5 2) (slabOf X5 3)) (k0_pay8 v (slabOf X6 0)) (k0_pay9 v)
    (slabOf X6 1) (slabOf X6 2) (slabOf X6 3)

/-! ## The triples -/

section Triples

variable (c : Dev nD) (i : grid0.Coords)
  (arg1 : Memref sig .tc .vmem S128x1 .i32) (harg1 : arg1.IsWhole) (arg2 : Memref sig .tc .vmem S128x1024 .f32) (harg2 : arg2.IsWhole)
  (arg3 : Memref sig .tc .vmem S1x1024x1024 .f32) (harg3 : arg3.IsWhole) (arg4 : Memref sig .tc .vmem S32x1x1024 .f32) (harg4 : arg4.IsWhole)
  (arg5 : Memref sig .tc .vmem S1x4x1x512x1024 .f32) (harg5 : arg5.IsWhole) (arg6 : Memref sig .tc .vmem S1x4x1x512x1024 .f32) (harg6 : arg6.IsWhole)
  (arg7 : Memref sig .tc .vmem S32x4x1024 .i32) (harg7 : arg7.IsWhole) (arg8 : Memref sig .tc .vmem S32x4x1024 .f32) (harg8 : arg8.IsWhole)
  (arg9 : Memref sig .tc .vmem S32x4x1024 .f32) (harg9 : arg9.IsWhole)
  (X1 : S128x1.Idx → Elt F .i32) (X2 : S128x1024.Idx → Elt F .f32) (X3 : S1x1024x1024.Idx → Elt F .f32) (X4 : S32x1x1024.Idx → Elt F .f32)
  (X5 X6 : S1x4x1x512x1024.Idx → Elt F .f32) (X7 : S32x4x1024.Idx → Elt F .i32) (X8 X9 : S32x4x1024.Idx → Elt F .f32)

/-- The nine memrefs held at the given contents. -/
def held (X1 : S128x1.Idx → Elt F .i32) (X2 : S128x1024.Idx → Elt F .f32) (X3 : S1x1024x1024.Idx → Elt F .f32) (X4 : S32x1x1024.Idx → Elt F .f32)
    (X5 X6 : S1x4x1x512x1024.Idx → Elt F .f32) (X7 : S32x4x1024.Idx → Elt F .i32) (X8 X9 : S32x4x1024.Idx → Elt F .f32) : sProp 𝕄 :=
  iprop(owns (c : Thread nD τ) arg1 fullShare X1 ∗ owns (c : Thread nD τ) arg2 fullShare X2 ∗ owns (c : Thread nD τ) arg3 fullShare X3
    ∗ owns (c : Thread nD τ) arg4 fullShare X4 ∗ owns (c : Thread nD τ) arg5 fullShare X5 ∗ owns (c : Thread nD τ) arg6 fullShare X6
    ∗ owns (c : Thread nD τ) arg7 fullShare X7 ∗ owns (c : Thread nD τ) arg8 fullShare X8 ∗ owns (c : Thread nD τ) arg9 fullShare X9)

theorem bias_inb (a : Fin 32) : ∀ b, (![a.val, 0, 0] : Fin 3 → ℕ) b + S1x1x1024.size b ≤ S32x1x1024.size b := by
  intro b; have := a.isLt; fin_cases b <;> simp <;> omega

/-- Row `a` of the bias table. -/
def biasRow (X4 : S32x1x1024.Idx → Elt F .f32) (a : Fin 32) : Vec F S1x1x1024 .f32 :=
  VecWindow.window X4 ![a.val, 0, 0] S1x1x1024.size (bias_inb a)

/-- The first point leaves the first weight matrix's term, added to zero, in the scratch. -/
theorem first_step (a : Fin 32) (h : (i 0).val = a.val) (h0 : a.val = 0) (K : PUnit → sProp 𝕄) :
    iprop(held c arg1 arg2 arg3 arg4 arg5 arg6 arg7 arg8 arg9 X1 X2 X3 X4 X5 X6 X7 X8 X9
        ∗ (held c arg1 arg2 arg3 arg4 arg5 arg6 arg7 arg8 arg9 X1 X2 X3 X4 X5 X6 X7
            X8
            (k0_pay2 i X1 X2 X3 (biasRow X4 a) (k0_pay1 (F := F))) -∗ K ⟨⟩))
      ⊢ wp frame (wpE (defs₀ (F := F)) Variants.none c none) Set.univ
          (cc0_bilinear_seq_attn_fused i arg1 harg1 arg2 harg2 arg3 harg3 arg4 harg4 arg5 harg5 arg6 harg6 arg7 harg7 arg8 harg8 arg9 harg9) K := by
  have hc1 : cond1 i = 1#1 := (cond1_iff i).2 (by omega)
  have hc2 : k0_cond2 i = 1#1 := (cond2_iff i).2 (by omega)
  have hc3 : ¬ k0_cond3 i = 1#1 := fun hh => by have := (cond3_iff i).1 hh; omega
  have ho : k0_off1 i = ![a.val, 0, 0] := (k0_off1_eq i).trans (by rw [h])
  simp only [cc0_bilinear_seq_attn_fused_eq_skeleton, k0_part1_eq_skeleton]; unfold cc0_bilinear_seq_attn_fused_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_exec (disch := first | sl_exact hc1 | sl_exact hc2 | sl_exact hc3)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro
    exact e8
  iexists _; isplitr; swap; · iexact H9
  ipureintro
  refine (View.read_writes_full _ _ _ _ _).trans ?_
  unfold first_step.sl.v31 first_step.sl.H9_1
  rw [View.readCov_full, View.readAt_full, View.readAt_full, View.readAt_full, View.readAt_unit _ _ _ ho (bias_inb a), e1, e2, e3, e4]
  rfl

/-- A weight point after the first adds its matrix's term to the scratch. -/
theorem weight_step (a : Fin 32) (h : (i 0).val = a.val) (h0 : a.val ≠ 0) (K : PUnit → sProp 𝕄) :
    iprop(held c arg1 arg2 arg3 arg4 arg5 arg6 arg7 arg8 arg9 X1 X2 X3 X4 X5 X6 X7 X8 X9
        ∗ (held c arg1 arg2 arg3 arg4 arg5 arg6 arg7 arg8 arg9 X1 X2 X3 X4 X5 X6 X7
            X8
            (k0_pay2 i X1 X2 X3 (biasRow X4 a) X9) -∗ K ⟨⟩))
      ⊢ wp frame (wpE (defs₀ (F := F)) Variants.none c none) Set.univ
          (cc0_bilinear_seq_attn_fused i arg1 harg1 arg2 harg2 arg3 harg3 arg4 harg4 arg5 harg5 arg6 harg6 arg7 harg7 arg8 harg8 arg9 harg9) K := by
  have hc1 : ¬ cond1 i = 1#1 := fun hh => h0 (h ▸ (cond1_iff i).1 hh)
  have hc2 : k0_cond2 i = 1#1 := (cond2_iff i).2 (by omega)
  have hc3 : ¬ k0_cond3 i = 1#1 := fun hh => by have := (cond3_iff i).1 hh; omega
  have ho : k0_off1 i = ![a.val, 0, 0] := (k0_off1_eq i).trans (by rw [h])
  simp only [cc0_bilinear_seq_attn_fused_eq_skeleton, k0_part1_eq_skeleton]; unfold cc0_bilinear_seq_attn_fused_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_exec (disch := first | sl_exact hc1 | sl_exact hc2 | sl_exact hc3)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro
    exact e8
  iexists _; isplitr; swap; · iexact H9
  ipureintro
  refine (View.read_writes_full _ _ _ _ _).trans ?_
  rw [View.readAt_full, View.readAt_full, View.readAt_full, View.readAt_full, View.readAt_unit _ _ _ ho (bias_inb a), e1, e2, e3, e4, e9]
  rfl

/-- The first score point writes its row of scores. -/
theorem score_first (j : Fin 32) (h : (i 0).val = 32 + j.val) (h0 : j.val = 0) (K : PUnit → sProp 𝕄) :
    iprop(held c arg1 arg2 arg3 arg4 arg5 arg6 arg7 arg8 arg9 X1 X2 X3 X4 X5 X6 X7 X8 X9
        ∗ (held c arg1 arg2 arg3 arg4 arg5 arg6 arg7 arg8 arg9 X1 X2 X3 X4 X5 X6 X7
            (putRow X8 j (scoreRow (rowOf X9 j) X5 X6))
            X9 -∗ K ⟨⟩))
      ⊢ wp frame (wpE (defs₀ (F := F)) Variants.none c none) Set.univ
          (cc0_bilinear_seq_attn_fused i arg1 harg1 arg2 harg2 arg3 harg3 arg4 harg4 arg5 harg5 arg6 harg6 arg7 harg7 arg8 harg8 arg9 harg9) K := by
  have hc1 : ¬ cond1 i = 1#1 := fun hh => by have := (cond1_iff i).1 hh; omega
  have hc2 : ¬ k0_cond2 i = 1#1 := fun hh => by have := (cond2_iff i).1 hh; omega
  have hc3 : k0_cond3 i = 1#1 := (cond3_iff i).2 (by omega)
  have hc4 : ¬ k0_cond4 i = 1#1 := fun hh => by have := (cond4_iff i (by omega)).1 hh; omega
  have hc5 : ¬ k0_cond5 i = 1#1 := fun hh => by have := (cond5_iff i (by omega)).1 hh; omega
  have ho2 : k0_off2 i = ![j.val, 0, 0] := (off2_eq i (by omega)).trans (by rw [h, Nat.add_sub_cancel_left])
  simp only [cc0_bilinear_seq_attn_fused_eq_skeleton, k0_part1_eq_skeleton]; unfold cc0_bilinear_seq_attn_fused_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_exec (disch := first | sl_exact hc1 | sl_exact hc2 | sl_exact hc3 | sl_exact hc4 | sl_exact hc5)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro
    have es : k0_pay3 (score_first.sl.r c i arg9 hc3 f9) (score_first.sl.r_1 c i arg5 arg9 hc3 f5 f9) (score_first.sl.r_2 c i arg6 arg9 hc3 f6 f9) (score_first.sl.r_3 c i arg9 hc3 f9)
        (View.readAt (Elt F) arg6.view (Rect.unit (s := S1x4x1x512x1024) ![0, 1, 0, 0, 0] S1x1x1x512x1024.size inb_S1x4x1x512x1024_S1x1x1x512x1024_0_1_0_0_0).toLoadRect f6)
        (View.readAt (Elt F) arg6.view (Rect.unit (s := S1x4x1x512x1024) ![0, 2, 0, 0, 0] S1x1x1x512x1024.size inb_S1x4x1x512x1024_S1x1x1x512x1024_0_2_0_0_0).toLoadRect f6)
        (View.readAt (Elt F) arg6.view (Rect.unit (s := S1x4x1x512x1024) ![0, 3, 0, 0, 0] S1x1x1x512x1024.size inb_S1x4x1x512x1024_S1x1x1x512x1024_0_3_0_0_0).toLoadRect f6)
          = scoreRow (rowOf X9 j) X5 X6 := by
      unfold score_first.sl.r score_first.sl.r_1 score_first.sl.r_2 score_first.sl.r_3
      rw [View.readAt_unit arg9.view f9 _ ho2 (row_inb j)]
      subst e5; subst e6; subst e9
      rfl
    rw [es, View.read_writes_cons_put _ _ _ _ _ ho2, View.writes_nil, e8]
    rfl
  iexists _; isplitr; swap; · iexact H9
  ipureintro
  exact e9

/-- A score point writes its row of scores and turns the row before it into log-softmax. -/
theorem score_step (j p : Fin 32) (h : (i 0).val = 32 + j.val) (hp : j.val = p.val + 1) (hj : j.val ≠ 31) (K : PUnit → sProp 𝕄) :
    iprop(held c arg1 arg2 arg3 arg4 arg5 arg6 arg7 arg8 arg9 X1 X2 X3 X4 X5 X6 X7 X8 X9
        ∗ (held c arg1 arg2 arg3 arg4 arg5 arg6 arg7 arg8 arg9 X1 X2 X3 X4 X5 X6 X7
            (putRow (putRow X8 j (scoreRow (rowOf X9 j) X5 X6)) p (k0_pay4 (rowOf X8 p) (rowOf X7 p)))
            X9 -∗ K ⟨⟩))
      ⊢ wp frame (wpE (defs₀ (F := F)) Variants.none c none) Set.univ
          (cc0_bilinear_seq_attn_fused i arg1 harg1 arg2 harg2 arg3 harg3 arg4 harg4 arg5 harg5 arg6 harg6 arg7 harg7 arg8 harg8 arg9 harg9) K := by
  have hc1 : ¬ cond1 i = 1#1 := fun hh => by have := (cond1_iff i).1 hh; omega
  have hc2 : ¬ k0_cond2 i = 1#1 := fun hh => by have := (cond2_iff i).1 hh; omega
  have hc3 : k0_cond3 i = 1#1 := (cond3_iff i).2 (by omega)
  have hc4 : k0_cond4 i = 1#1 := (cond4_iff i (by omega)).2 (by omega)
  have hc5 : ¬ k0_cond5 i = 1#1 := fun hh => by have := (cond5_iff i (by omega)).1 hh; omega
  have ho2 : k0_off2 i = ![j.val, 0, 0] := (off2_eq i (by omega)).trans (by rw [h, Nat.add_sub_cancel_left])
  have ho3 : k0_off3 i = ![p.val, 0, 0] := (off3_eq i (by omega)).trans (by rw [show (i 0).val - 33 = p.val by omega])
  letI : ClosedOff (k0_off3 i) := ⟨![p.val, 0, 0], ho3⟩
  letI : ClosedOff (k0_off2 i) := ⟨![p.val + 1, 0, 0], ho2.trans (by rw [hp])⟩
  simp only [cc0_bilinear_seq_attn_fused_eq_skeleton, k0_part1_eq_skeleton]; unfold cc0_bilinear_seq_attn_fused_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_exec (disch := first | sl_exact hc1 | sl_exact hc2 | sl_exact hc3 | sl_exact hc4 | sl_exact hc5)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro
    have es : k0_pay3 (score_step.sl.r c i arg9 hc3 f9) (score_step.sl.r_1 c i arg5 arg9 hc3 f5 f9) (score_step.sl.r_2 c i arg6 arg9 hc3 f6 f9) (score_step.sl.r_3 c i arg9 hc3 f9)
        (View.readAt (Elt F) arg6.view (Rect.unit (s := S1x4x1x512x1024) ![0, 1, 0, 0, 0] S1x1x1x512x1024.size inb_S1x4x1x512x1024_S1x1x1x512x1024_0_1_0_0_0).toLoadRect f6)
        (View.readAt (Elt F) arg6.view (Rect.unit (s := S1x4x1x512x1024) ![0, 2, 0, 0, 0] S1x1x1x512x1024.size inb_S1x4x1x512x1024_S1x1x1x512x1024_0_2_0_0_0).toLoadRect f6)
        (View.readAt (Elt F) arg6.view (Rect.unit (s := S1x4x1x512x1024) ![0, 3, 0, 0, 0] S1x1x1x512x1024.size inb_S1x4x1x512x1024_S1x1x1x512x1024_0_3_0_0_0).toLoadRect f6)
          = scoreRow (rowOf X9 j) X5 X6 := by
      unfold score_step.sl.r score_step.sl.r_1 score_step.sl.r_2 score_step.sl.r_3
      rw [View.readAt_unit arg9.view f9 _ ho2 (row_inb j)]
      subst e5; subst e6; subst e9
      rfl
    have e60 : k0_pay4 (score_step.sl.v60 c i arg8 hc3 hc4 f8) (View.readAt (Elt F) arg7.view (Rect.unit (s := S32x4x1024) (k0_off3 i) S1x4x1024.size (k0_off3_inb i hc3 hc4)).toLoadRect f7)
        = k0_pay4 (rowOf X8 p) (rowOf X7 p) := by
      unfold score_step.sl.v60
      rw [View.readAt_unit arg7.view f7 _ ho3 (row_inb p), View.readAt_unit arg8.view f8 _ ho3 (row_inb p), e7, e8]
      rfl
    rw [es, e60, View.read_writes_cons_put _ _ _ _ _ ho3, View.read_writes_cons_put _ _ _ _ _ ho2, View.writes_nil, e8]
    rfl
  iexists _; isplitr; swap; · iexact H9
  ipureintro
  exact e9

/-- The last score point turns its own row into log-softmax too. -/
theorem score_last (j p : Fin 32) (h : (i 0).val = 32 + j.val) (hp : j.val = p.val + 1) (hj : j.val = 31) (K : PUnit → sProp 𝕄) :
    iprop(held c arg1 arg2 arg3 arg4 arg5 arg6 arg7 arg8 arg9 X1 X2 X3 X4 X5 X6 X7 X8 X9
        ∗ (held c arg1 arg2 arg3 arg4 arg5 arg6 arg7 arg8 arg9 X1 X2 X3 X4 X5 X6 X7
            (putRow (putRow (putRow X8 j (scoreRow (rowOf X9 j) X5 X6)) p (k0_pay4 (rowOf X8 p) (rowOf X7 p))) j
              (k0_pay5 (scoreRow (rowOf X9 j) X5 X6) (rowOf X7 j)))
            X9 -∗ K ⟨⟩))
      ⊢ wp frame (wpE (defs₀ (F := F)) Variants.none c none) Set.univ
          (cc0_bilinear_seq_attn_fused i arg1 harg1 arg2 harg2 arg3 harg3 arg4 harg4 arg5 harg5 arg6 harg6 arg7 harg7 arg8 harg8 arg9 harg9) K := by
  have hc1 : ¬ cond1 i = 1#1 := fun hh => by have := (cond1_iff i).1 hh; omega
  have hc2 : ¬ k0_cond2 i = 1#1 := fun hh => by have := (cond2_iff i).1 hh; omega
  have hc3 : k0_cond3 i = 1#1 := (cond3_iff i).2 (by omega)
  have hc4 : k0_cond4 i = 1#1 := (cond4_iff i (by omega)).2 (by omega)
  have hc5 : k0_cond5 i = 1#1 := (cond5_iff i (by omega)).2 (by omega)
  have ho2 : k0_off2 i = ![j.val, 0, 0] := (off2_eq i (by omega)).trans (by rw [h, Nat.add_sub_cancel_left])
  have ho3 : k0_off3 i = ![p.val, 0, 0] := (off3_eq i (by omega)).trans (by rw [show (i 0).val - 33 = p.val by omega])
  letI : ClosedOff (k0_off3 i) := ⟨![30, 0, 0], ho3.trans (by rw [show p.val = 30 by omega])⟩
  letI : ClosedOff (k0_off2 i) := ⟨![31, 0, 0], ho2.trans (by rw [hj])⟩
  simp only [cc0_bilinear_seq_attn_fused_eq_skeleton, k0_part1_eq_skeleton]; unfold cc0_bilinear_seq_attn_fused_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_exec (disch := first | sl_exact hc1 | sl_exact hc2 | sl_exact hc3 | sl_exact hc4 | sl_exact hc5)
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro
    have es : k0_pay3 (score_last.sl.r c i arg9 hc3 f9) (score_last.sl.r_1 c i arg5 arg9 hc3 f5 f9) (score_last.sl.r_2 c i arg6 arg9 hc3 f6 f9) (score_last.sl.r_3 c i arg9 hc3 f9)
        (View.readAt (Elt F) arg6.view (Rect.unit (s := S1x4x1x512x1024) ![0, 1, 0, 0, 0] S1x1x1x512x1024.size inb_S1x4x1x512x1024_S1x1x1x512x1024_0_1_0_0_0).toLoadRect f6)
        (View.readAt (Elt F) arg6.view (Rect.unit (s := S1x4x1x512x1024) ![0, 2, 0, 0, 0] S1x1x1x512x1024.size inb_S1x4x1x512x1024_S1x1x1x512x1024_0_2_0_0_0).toLoadRect f6)
        (View.readAt (Elt F) arg6.view (Rect.unit (s := S1x4x1x512x1024) ![0, 3, 0, 0, 0] S1x1x1x512x1024.size inb_S1x4x1x512x1024_S1x1x1x512x1024_0_3_0_0_0).toLoadRect f6)
          = scoreRow (rowOf X9 j) X5 X6 := by
      unfold score_last.sl.r score_last.sl.r_1 score_last.sl.r_2 score_last.sl.r_3
      rw [View.readAt_unit arg9.view f9 _ ho2 (row_inb j)]
      subst e5; subst e6; subst e9
      rfl
    have e60 : k0_pay4 (score_last.sl.v60 c i arg8 hc3 hc4 f8) (View.readAt (Elt F) arg7.view (Rect.unit (s := S32x4x1024) (k0_off3 i) S1x4x1024.size (k0_off3_inb i hc3 hc4)).toLoadRect f7)
        = k0_pay4 (rowOf X8 p) (rowOf X7 p) := by
      unfold score_last.sl.v60
      rw [View.readAt_unit arg7.view f7 _ ho3 (row_inb p), View.readAt_unit arg8.view f8 _ ho3 (row_inb p), e7, e8]
      rfl
    have hjp : j ≠ p := fun e => by rw [e] at hp; omega
    have hH : ∀ f, arg8.view.read (Elt F) (arg8.view.writes (Elt F) f (score_last.sl.H8_2 c i arg5 arg6 arg7 arg8 arg9 hc3 hc4 f5 f6 f7 f8 f9))
        = putRow (putRow (arg8.view.read (Elt F) f) j (scoreRow (rowOf X9 j) X5 X6)) p (k0_pay4 (rowOf X8 p) (rowOf X7 p)) := fun f => by
      unfold score_last.sl.H8_2
      rw [es, e60, View.read_writes_cons_put _ _ _ _ _ ho3, View.read_writes_cons_put _ _ _ _ _ ho2, View.writes_nil]
      rfl
    have h31 : (![31, 0, 0] : Fin 3 → ℕ) = ![j.val, 0, 0] := by rw [hj]
    have e58 : score_last.sl.v58 c i arg5 arg6 arg7 arg8 arg9 hc3 hc4 f5 f6 f7 f8 f9 = scoreRow (rowOf X9 j) X5 X6 := by
      refine (View.readAt_unit arg8.view _ _ h31 (row_inb j)).trans ?_
      rw [hH]
      exact (rowOf_putRow_ne _ p j _ hjp).trans (rowOf_putRow _ _ _)
    rw [View.read_writes_cons_put _ _ _ _ _ h31, hH, e58, View.readAt_unit arg7.view f7 _ h31 (row_inb j), e7, e8]
    rfl
  iexists _; isplitr; swap; · iexact H9
  ipureintro
  exact e9

end Triples

end Cert.KernelIdeal.Hand

end
-- ==== Proof.KernelBlocks.lean ====
/-
  What the pipeline hands the body at each grid point: the action column, the queries, the bias table and the mask are
  whole arrays at every point; the weight block of a weight point is that point's matrix; the two blocks of `x` at score
  point `32 + j` are the two halves of the four samples of row `j`.
-/
module

public import proofs.«01_k».proof.Proof.Gen.KernelIdeal.Frame
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ) (c : Dev nD)

/-! ## The arrays the region finds, and the blocks of two of them -/

/-- The action column. -/
def acts : S128x1.Idx → Elt F .i32 := V m c main_v0
/-- The queries. -/
def ys : S128x1024.Idx → Elt F .f32 := V m c main_arg1
/-- The bias table. -/
def biases : S32x1x1024.Idx → Elt F .f32 := V m c main_v1
/-- The mask, as words. -/
def masks : S32x4x1024.Idx → Elt F .i32 := V m c main_v4
/-- The weight matrices. -/
def weights : S32x1024x1024.Idx → Elt F .f32 := V m c main_arg4
/-- The samples, each cut in two halves. -/
def xs : S32x4x2x512x1024.Idx → Elt F .f32 := V m c main_v2

/-- Weight matrix `a` as a block. -/
def weightBlock (a : Fin 32) : S1x1024x1024.Idx → Elt F .f32 := fun y => weights m c (ix3 a (y 1) (y 2))
/-- Half `h` of the four samples of row `j` as a block. -/
def xBlock (j : Fin 32) (h : Fin 2) : S1x4x1x512x1024.Idx → Elt F .f32 := fun y => xs m c (ix5 j (y 1) h (y 3) (y 4))

/-! ## The windows' indices over the grid -/

theorem coords_val : ∀ t : Fin grid0.N, (grid0.coords t 0).val = t.val := by decide +kernel
theorem index0 : ∀ t : Fin grid0.N, win0_0.index t (0 : Fin 2) = 0 ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 3) = min t.val 31 ∧ win0_2.index t (1 : Fin 3) = 0 ∧ win0_2.index t (2 : Fin 3) = 0 := by
  decide +kernel
theorem index3 : ∀ t : Fin grid0.N, win0_3.index t (0 : Fin 3) = 0 ∧ win0_3.index t (1 : Fin 3) = 0 ∧ win0_3.index t (2 : Fin 3) = 0 := by
  decide +kernel
theorem index4 : ∀ t : Fin grid0.N, win0_4.index t (0 : Fin 5) = t.val - 32 ∧ win0_4.index t (1 : Fin 5) = 0 ∧ win0_4.index t (2 : Fin 5) = 0
    ∧ win0_4.index t (3 : Fin 5) = 0 ∧ win0_4.index t (4 : Fin 5) = 0 := by decide +kernel
theorem index5 : ∀ t : Fin grid0.N, win0_5.index t (0 : Fin 5) = t.val - 32 ∧ win0_5.index t (1 : Fin 5) = 0 ∧ win0_5.index t (2 : Fin 5) = 1
    ∧ win0_5.index t (3 : Fin 5) = 0 ∧ win0_5.index t (4 : Fin 5) = 0 := by decide +kernel
theorem index6 : ∀ t : Fin grid0.N, win0_6.index t (0 : Fin 3) = 0 ∧ win0_6.index t (1 : Fin 3) = 0 ∧ win0_6.index t (2 : Fin 3) = 0 := by
  decide +kernel
theorem index7 : ∀ t : Fin grid0.N, win0_7.index t (0 : Fin 3) = 0 ∧ win0_7.index t (1 : Fin 3) = 0 ∧ win0_7.index t (2 : Fin 3) = 0 := by
  decide +kernel

/-! ## The blocks -/

variable (t : Fin cfg0.N)

theorem iblk0_eq : iblk m c 0 t = acts m c := by
  funext y
  show V m c main_v0 (((cfg0.win 0).blk t).view.emb y) = V m c main_v0 y
  congr 1; funext a; apply Fin.ext
  match a with
  | ⟨0, _⟩ => show win0_0.index t (0 : Fin 2) * 128 + 1 * (y 0).val = (y 0).val; rw [(index0 t).1]; omega
  | ⟨1, _⟩ => show win0_0.index t (1 : Fin 2) * 1 + 1 * (y 1).val = (y 1).val; rw [(index0 t).2]; omega

theorem iblk1_eq : iblk m c 1 t = ys m c := by
  funext y
  show V m c main_arg1 (((cfg0.win 1).blk t).view.emb y) = V m c main_arg1 y
  congr 1; funext a; apply Fin.ext
  match a with
  | ⟨0, _⟩ => show win0_1.index t (0 : Fin 2) * 128 + 1 * (y 0).val = (y 0).val; rw [(index1 t).1]; omega
  | ⟨1, _⟩ => show win0_1.index t (1 : Fin 2) * 1024 + 1 * (y 1).val = (y 1).val; rw [(index1 t).2]; omega

theorem iblk2_eq (k : Fin 32) (h : t.val = k.val) : iblk m c 2 t = weightBlock m c k := by
  funext y
  show V m c main_arg4 (((cfg0.win 2).blk t).view.emb y) = V m c main_arg4 (ix3 k (y 1) (y 2))
  congr 1; funext a; apply Fin.ext
  have hk := k.isLt
  match a with
  | ⟨0, _⟩ => show win0_2.index t (0 : Fin 3) * 1 + 1 * (y 0).val = k.val; rw [(index2 t).1]; have : (y 0).val < 1 := (y 0).isLt; omega
  | ⟨1, _⟩ => show win0_2.index t (1 : Fin 3) * 1024 + 1 * (y 1).val = (y 1).val; rw [(index2 t).2.1]; omega
  | ⟨2, _⟩ => show win0_2.index t (2 : Fin 3) * 1024 + 1 * (y 2).val = (y 2).val; rw [(index2 t).2.2]; omega

theorem iblk3_eq : iblk m c 3 t = biases m c := by
  funext y
  show V m c main_v1 (((cfg0.win 3).blk t).view.emb y) = V m c main_v1 y
  congr 1; funext a; apply Fin.ext
  match a with
  | ⟨0, _⟩ => show win0_3.index t (0 : Fin 3) * 32 + 1 * (y 0).val = (y 0).val; rw [(index3 t).1]; omega
  | ⟨1, _⟩ => show win0_3.index t (1 : Fin 3) * 1 + 1 * (y 1).val = (y 1).val; rw [(index3 t).2.1]; omega
  | ⟨2, _⟩ => show win0_3.index t (2 : Fin 3) * 1024 + 1 * (y 2).val = (y 2).val; rw [(index3 t).2.2]; omega

theorem iblk4_eq (j : Fin 32) (h : t.val = 32 + j.val) : iblk m c 4 t = xBlock m c j 0 := by
  funext y
  show V m c main_v2 (((cfg0.win 4).blk t).view.emb y) = V m c main_v2 (ix5 j (y 1) 0 (y 3) (y 4))
  congr 1; funext a; apply Fin.ext
  obtain ⟨e0, e1, e2, e3, e4⟩ := index4 t
  match a with
  | ⟨0, _⟩ => show win0_4.index t (0 : Fin 5) * 1 + 1 * (y 0).val = j.val; rw [e0]; have : (y 0).val < 1 := (y 0).isLt; omega
  | ⟨1, _⟩ => show win0_4.index t (1 : Fin 5) * 4 + 1 * (y 1).val = (y 1).val; rw [e1]; omega
  | ⟨2, _⟩ => show win0_4.index t (2 : Fin 5) * 1 + 1 * (y 2).val = 0; rw [e2]; have : (y 2).val < 1 := (y 2).isLt; omega
  | ⟨3, _⟩ => show win0_4.index t (3 : Fin 5) * 512 + 1 * (y 3).val = (y 3).val; rw [e3]; omega
  | ⟨4, _⟩ => show win0_4.index t (4 : Fin 5) * 1024 + 1 * (y 4).val = (y 4).val; rw [e4]; omega

theorem iblk5_eq (j : Fin 32) (h : t.val = 32 + j.val) : iblk m c 5 t = xBlock m c j 1 := by
  funext y
  show V m c main_v2 (((cfg0.win 5).blk t).view.emb y) = V m c main_v2 (ix5 j (y 1) 1 (y 3) (y 4))
  congr 1; funext a; apply Fin.ext
  obtain ⟨e0, e1, e2, e3, e4⟩ := index5 t
  match a with
  | ⟨0, _⟩ => show win0_5.index t (0 : Fin 5) * 1 + 1 * (y 0).val = j.val; rw [e0]; have : (y 0).val < 1 := (y 0).isLt; omega
  | ⟨1, _⟩ => show win0_5.index t (1 : Fin 5) * 4 + 1 * (y 1).val = (y 1).val; rw [e1]; omega
  | ⟨2, _⟩ => show win0_5.index t (2 : Fin 5) * 1 + 1 * (y 2).val = 1; rw [e2]; have : (y 2).val < 1 := (y 2).isLt; omega
  | ⟨3, _⟩ => show win0_5.index t (3 : Fin 5) * 512 + 1 * (y 3).val = (y 3).val; rw [e3]; omega
  | ⟨4, _⟩ => show win0_5.index t (4 : Fin 5) * 1024 + 1 * (y 4).val = (y 4).val; rw [e4]; omega

theorem iblk6_eq : iblk m c 6 t = masks m c := by
  funext y
  show V m c main_v4 (((cfg0.win 6).blk t).view.emb y) = V m c main_v4 y
  congr 1; funext a; apply Fin.ext
  match a with
  | ⟨0, _⟩ => show win0_6.index t (0 : Fin 3) * 32 + 1 * (y 0).val = (y 0).val; rw [(index6 t).1]; omega
  | ⟨1, _⟩ => show win0_6.index t (1 : Fin 3) * 4 + 1 * (y 1).val = (y 1).val; rw [(index6 t).2.1]; omega
  | ⟨2, _⟩ => show win0_6.index t (2 : Fin 3) * 1024 + 1 * (y 2).val = (y 2).val; rw [(index6 t).2.2]; omega

end Cert.KernelIdeal.Hand

end
-- ==== Proof.KernelRun.lean ====
/-
  The body at every grid point. The scratch after each point is followed by a recursion over the weight points; of the
  output window the data says which rows are finished and which one still holds raw scores.
-/
module

public import proofs.«01_k».proof.Proof.KernelStep
public import proofs.«01_k».proof.Proof.KernelBlocks
public import Idealize.ShloMosaic.Lib.Pipeline.DatRel
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg) (c : Dev nD)

/-! ## The values -/

/-- The grid point numbered `n`. -/
abbrev pt (n : ℕ) (h : n < 64) : Fin cfg0.N := ⟨n, by rw [show cfg0.N = 64 from N_0]; exact h⟩

/-- The scratch before point `n`, zero before the first: each weight point adds its term, the score points leave it. -/
def wyAt : ℕ → S32x4x1024.Idx → Elt F .f32
  | 0 => k0_pay1
  | n + 1 =>
    if h : n < 32 then
      k0_pay2 (grid0.coords (pt n (by omega))) (acts m c) (ys m c) (weightBlock m c ⟨n, h⟩) (biasRow (biases m c) ⟨n, h⟩) (wyAt n)
    else wyAt n

theorem wyAt_zero : wyAt m c 0 = k0_pay1 := rfl

theorem wyAt_succ (t : Fin cfg0.N) (a : Fin 32) (h : t.val = a.val) :
    wyAt m c (a.val + 1) = k0_pay2 (grid0.coords t) (acts m c) (ys m c) (weightBlock m c a) (biasRow (biases m c) a) (wyAt m c a.val) := by
  have ht : t = pt a.val (by have := a.isLt; omega) := Fin.ext h
  rw [ht]
  show (if h : a.val < 32 then _ else _) = _
  rw [dif_pos a.isLt]

theorem wyAt_late (n : ℕ) (h : 32 ≤ n) : wyAt m c n = wyAt m c 32 := by
  induction n with
  | zero => omega
  | succ n ih =>
    rcases Nat.lt_or_ge n 32 with h' | h'
    · have : n + 1 = 32 := by omega
      rw [this]
    · show (if h : n < 32 then _ else _) = _
      rw [dif_neg (by omega)]; exact ih h'

/-- The scores of row `r`. -/
def rawRow (r : Fin 32) : S1x4x1024.Idx → Elt F .f32 := scoreRow (rowOf (wyAt m c 32) r) (xBlock m c r 0) (xBlock m c r 1)

/-- The masked log-softmax of row `r`. -/
def softRow (r : Fin 32) : S1x4x1024.Idx → Elt F .f32 := k0_pay4 (rawRow m c r) (rowOf (masks m c) r)

/-- The last row's log-softmax is computed as every other row's. -/
theorem softRow_last (r : Fin 32) : k0_pay5 (rawRow m c r) (rowOf (masks m c) r) = softRow m c r := rfl

/-- The result array. -/
def result : S32x4x1024.Idx → Elt F .f32 := fun y => softRow m c (y 0) (ValueIdx.ix3 (0 : Fin 1) (y 1) (y 2))

theorem rowOf_apply {α : Type} (X : S32x4x1024.Idx → α) (r : Fin 32) (g : Fin 4) (l : Fin 1024) :
    rowOf X r (ValueIdx.ix3 (0 : Fin 1) g l) = X (ValueIdx.ix3 r g l) := by
  unfold rowOf VecWindow.window
  congr 1; funext a; apply Fin.ext
  match a with
  | ⟨0, _⟩ => show r.val + 1 * 0 = r.val; omega
  | ⟨1, _⟩ => show 0 + 1 * g.val = g.val; omega
  | ⟨2, _⟩ => show 0 + 1 * l.val = l.val; omega

/-- An array whose rows are the finished rows is the result. -/
theorem eq_result (X : S32x4x1024.Idx → Elt F .f32) (h : ∀ r, rowOf X r = softRow m c r) : X = result m c := by
  funext y
  rw [ValueIdx.eq_ix3 y]
  exact (rowOf_apply X (y 0) (y 1) (y 2)).symm.trans (congrFun (h (y 0)) _)

/-- What the output window holds after point `n`: the rows before that point's own are finished, and its own row holds
    its scores, or is finished too when it is the last. -/
def Done (n : ℕ) (X : S32x4x1024.Idx → Elt F .f32) : Prop :=
  (∀ r : Fin 32, r.val + 32 < n → rowOf X r = softRow m c r)
    ∧ (∀ r : Fin 32, r.val + 32 = n → rowOf X r = if r.val = 31 then softRow m c r else rawRow m c r)

theorem done_early (n : ℕ) (h : n < 32) (X : S32x4x1024.Idx → Elt F .f32) : Done m c n X :=
  ⟨fun r hr => by omega, fun r hr => by omega⟩

theorem done_first (j : Fin 32) (hj : j.val = 0) (X : S32x4x1024.Idx → Elt F .f32) :
    Done m c (32 + j.val) (putRow X j (rawRow m c j)) :=
  ⟨fun r hr => by omega, fun r hr => by
    obtain rfl : r = j := Fin.ext (by omega)
    rw [rowOf_putRow, if_neg (by omega)]⟩

theorem done_step (j p : Fin 32) (hp : j.val = p.val + 1) (hj : j.val ≠ 31) (X : S32x4x1024.Idx → Elt F .f32) (hX : Done m c (32 + p.val) X) :
    Done m c (32 + j.val) (putRow (putRow X j (rawRow m c j)) p (k0_pay4 (rowOf X p) (rowOf (masks m c) p))) := by
  have hne : j ≠ p := fun e => by rw [e] at hp; omega
  refine ⟨fun r hr => ?_, fun r hr => ?_⟩
  · by_cases e : r = p
    · subst e
      rw [rowOf_putRow, hX.2 r (by omega), if_neg (by omega)]; rfl
    · have hrj : r ≠ j := fun e' => by rw [e'] at hr; omega
      have hv : r.val ≠ p.val := fun e' => e (Fin.ext e')
      rw [rowOf_putRow_ne _ _ _ _ e, rowOf_putRow_ne _ _ _ _ hrj, hX.1 r (by omega)]
  · obtain rfl : r = j := Fin.ext (by omega)
    rw [rowOf_putRow_ne _ _ _ _ hne, rowOf_putRow, if_neg hj]

theorem done_last (j p : Fin 32) (hp : j.val = p.val + 1) (hj : j.val = 31) (X : S32x4x1024.Idx → Elt F .f32) (hX : Done m c (32 + p.val) X) :
    Done m c (32 + j.val) (putRow (putRow (putRow X j (rawRow m c j)) p (k0_pay4 (rowOf X p) (rowOf (masks m c) p))) j
      (k0_pay5 (rawRow m c j) (rowOf (masks m c) j))) := by
  refine ⟨fun r hr => ?_, fun r hr => ?_⟩
  · have hrj : r ≠ j := fun e' => by rw [e'] at hr; omega
    rw [rowOf_putRow_ne _ _ _ _ hrj]
    by_cases e : r = p
    · subst e
      rw [rowOf_putRow, hX.2 r (by omega), if_neg (by omega)]; rfl
    · have hv : r.val ≠ p.val := fun e' => e (Fin.ext e')
      rw [rowOf_putRow_ne _ _ _ _ e, rowOf_putRow_ne _ _ _ _ hrj, hX.1 r (by omega)]
  · obtain rfl : r = j := Fin.ext (by omega)
    rw [rowOf_putRow, if_pos hj]; rfl

theorem done_all (X : S32x4x1024.Idx → Elt F .f32) (h : Done m c 63 X) : X = result m c :=
  eq_result m c X fun r => by
    have := r.isLt
    rcases Nat.lt_or_ge r.val 31 with h' | h'
    · exact h.1 r (by omega)
    · rw [h.2 r (by omega), if_pos (by omega)]

/-! ## The proof data -/

/-- The scratch, whole. -/
abbrev scM : Memref sig .tc .vmem S32x4x1024 .f32 := Memref.whole cc0_scratch0

/-- Between points: the scratch at the running sum once a point has run, at anything before; the generator register at some state. -/
def inv (n : ℕ) : sProp 𝕄 :=
  iprop((∃ X, ⌜n ≠ 0 → X = wyAt m c n⌝ ∗ owns (c : Thread nD τ) scM fullShare X) ∗ ∃ r, prngReg c r)

/-- Which window the data says only a property of: the output. -/
def marked : Fin 8 → Bool := fun | 7 => true | _ => false

/-- The property: the rows done by the point. -/
def rel : (w : Fin cfg0.W) → Fin cfg0.N → ((cfg0.win w).block.Idx → Elt F (cfg0.win w).elt) → Prop :=
  fun | 7 => fun t X => Done m c t.val X | 0 | 1 | 2 | 3 | 4 | 5 | 6 => fun _ _ => True
      | ⟨_ + 8, h⟩ => absurd h (Nat.not_lt.2 (Nat.le_add_left _ _))

/-- The proof data on core `c`. -/
def dat : Dat τ (Elt F) Unit ℕ (UR sig nD τ) ℕ cfg0 c where
  A w := V m c (Pipeline.arrRef spec0 w)
  after := fun
    | 0 => iblk m c 0 | 1 => iblk m c 1 | 2 => iblk m c 2 | 3 => iblk m c 3 | 4 => iblk m c 4 | 5 => iblk m c 5 | 6 => iblk m c 6
    | 7 => Pipeline.Dat.unnamed (cfg := cfg0) 7
    | ⟨_ + 8, h⟩ => absurd h (Nat.not_lt.2 (Nat.le_add_left _ _))
  Φ t := inv m c t.val
  q w := Pipeline.shareOf spec0 w
  owed _ := 0

theorem before0 (t : Fin cfg0.N) (d) : (dat m c).before 0 t d = iblk m c 0 t := before0_0_of m (dat m c) rfl (fun _ => rfl) t d
theorem before1 (t : Fin cfg0.N) (d) : (dat m c).before 1 t d = iblk m c 1 t := before0_1_of m (dat m c) rfl (fun _ => rfl) t d
theorem before2 (t : Fin cfg0.N) (d) : (dat m c).before 2 t d = iblk m c 2 t := before0_2_of m (dat m c) rfl (fun _ => rfl) t d
theorem before3 (t : Fin cfg0.N) (d) : (dat m c).before 3 t d = iblk m c 3 t := before0_3_of m (dat m c) rfl (fun _ => rfl) t d
theorem before4 (t : Fin cfg0.N) (d) : (dat m c).before 4 t d = iblk m c 4 t := before0_4_of m (dat m c) rfl (fun _ => rfl) t d
theorem before5 (t : Fin cfg0.N) (d) : (dat m c).before 5 t d = iblk m c 5 t := before0_5_of m (dat m c) rfl (fun _ => rfl) t d
theorem before6 (t : Fin cfg0.N) (d) : (dat m c).before 6 t d = iblk m c 6 t := before0_6_of m (dat m c) rfl (fun _ => rfl) t d

/-- The output window as a point finds it: the rows done by the point before. -/
theorem found (t : Fin cfg0.N) (h : t.val ≠ 0) (Y) (hY : ((dat m c).toRRel marked (rel m c)).Finds 7 t Y) : Done m c (t.val - 1) Y := by
  have hN : t.val < 64 := lt_of_lt_of_eq t.isLt N_0
  have hf : (cfg0.win 7).fetch t = false := Pipeline.Window.fetch_out win0_7 rfl t
  rcases (RDat.finds_of_pos _ hf h Y).1 hY with h' | h'
  · have := (flush0_7 _).1 h'
    dsimp only at this
    omega
  · exact Dat.toRRel_leaves (dat m c) (w := 7) rfl h'

/-! ## The body at a point -/

/-- What the body is called with at point `t`: the invariant, the seven inputs at their blocks, the output at contents it may hold there. -/
def bodyPre (t : Fin cfg0.N) : sProp 𝕄 :=
  iprop(inv m c t.val ∗ (dat m c).owesAt () t.castSucc
    ∗ (∃ d, owns (c : Thread nD τ) (st0_0 t) fullShare ((dat m c).before 0 t d)) ∗ (∃ d, owns (c : Thread nD τ) (st0_1 t) fullShare ((dat m c).before 1 t d))
    ∗ (∃ d, owns (c : Thread nD τ) (st0_2 t) fullShare ((dat m c).before 2 t d)) ∗ (∃ d, owns (c : Thread nD τ) (st0_3 t) fullShare ((dat m c).before 3 t d))
    ∗ (∃ d, owns (c : Thread nD τ) (st0_4 t) fullShare ((dat m c).before 4 t d)) ∗ (∃ d, owns (c : Thread nD τ) (st0_5 t) fullShare ((dat m c).before 5 t d))
    ∗ (∃ d, owns (c : Thread nD τ) (st0_6 t) fullShare ((dat m c).before 6 t d))
    ∗ (∃ Y, ⌜((dat m c).toRRel marked (rel m c)).Finds 7 t Y⌝ ∗ owns (c : Thread nD τ) (st0_7 t) fullShare Y))

/-- What it returns: the inputs as they were, the output with the point's rows done. -/
def bodyPost (t : Fin cfg0.N) : sProp 𝕄 :=
  iprop(inv m c (t.val + 1) ∗ (dat m c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ owns (c : Thread nD τ) (st0_6 t) fullShare (iblk m c 6 t)
    ∗ (∃ X, ⌜Done m c t.val X⌝ ∗ owns (c : Thread nD τ) (st0_7 t) fullShare X))

/-- The nine memrefs the body is called with at point `t`, held at the point's blocks, the output's contents and the scratch's. -/
abbrev heldAt (t : Fin cfg0.N) (X8 X9 : S32x4x1024.Idx → Elt F .f32) : sProp 𝕄 :=
  held c (st0_0 t) (st0_1 t) (st0_2 t) (st0_3 t) (st0_4 t) (st0_5 t) (st0_6 t) (st0_7 t) scM
    (iblk m c 0 t) (iblk m c 1 t) (iblk m c 2 t) (iblk m c 3 t) (iblk m c 4 t) (iblk m c 5 t) (iblk m c 6 t) X8 X9

/-- The body at point `t`, from an output that has the rows of the points before done and a scratch at the running sum: it leaves
    an output with the point's rows done and the scratch at the next running sum. -/
theorem point (t : Fin cfg0.N) (X8 X9 : S32x4x1024.Idx → Elt F .f32) (h8 : t.val ≠ 0 → Done m c (t.val - 1) X8) (h9 : t.val ≠ 0 → X9 = wyAt m c t.val)
    (K : PUnit → sProp 𝕄) :
    iprop(heldAt m c t X8 X9 ∗ ((∃ Y8, ⌜Done m c t.val Y8⌝ ∗ heldAt m c t Y8 (wyAt m c (t.val + 1))) -∗ K ⟨⟩))
      ⊢ wp frame (wpE (defs₀ (F := F)) Variants.none c none) Set.univ (bodyAt0 t) K := by
  have hN : t.val < 64 := lt_of_lt_of_eq t.isLt N_0
  have hc : (grid0.coords t 0).val = t.val := coords_val t
  unfold bodyAt0
  rcases Nat.lt_or_ge t.val 32 with hlt | hge
  · have e1 : wyAt m c (t.val + 1) = k0_pay2 (grid0.coords t) (iblk m c 0 t) (iblk m c 1 t) (iblk m c 2 t) (biasRow (iblk m c 3 t) ⟨t.val, hlt⟩) (wyAt m c t.val) := by
      rw [iblk0_eq, iblk1_eq, iblk2_eq m c t ⟨t.val, hlt⟩ rfl, iblk3_eq]
      exact wyAt_succ m c t ⟨t.val, hlt⟩ rfl
    by_cases h0 : t.val = 0
    · have e0 : wyAt m c t.val = k0_pay1 := by rw [h0]; rfl
      rw [e1, e0]
      iintro ⟨H, Hk⟩
      iapply (first_step c (grid0.coords t) _ _ _ _ _ _ _ _ _ _ _ _ _ _ _ _ _ _ _ _ _ _ _ _ _ _ _ (⟨t.val, hlt⟩ : Fin 32) hc h0 K)
      isplitl [H]; · iexact H
      iintro H
      iapply Hk
      iexists X8
      isplitr
      · ipureintro
        exact done_early m c _ hlt X8
      iexact H
    · rw [e1, h9 h0]
      iintro ⟨H, Hk⟩
      iapply (weight_step c (grid0.coords t) _ _ _ _ _ _ _ _ _ _ _ _ _ _ _ _ _ _ _ _ _ _ _ _ _ _ _ (⟨t.val, hlt⟩ : Fin 32) hc h0 K)
      isplitl [H]; · iexact H
      iintro H
      iapply Hk
      iexists X8
      isplitr
      · ipureintro
        exact done_early m c _ hlt X8
      iexact H
  · obtain ⟨j, hj⟩ : ∃ j : Fin 32, t.val = 32 + j.val := ⟨⟨t.val - 32, by omega⟩, by show t.val = 32 + (t.val - 32); omega⟩
    have e1 : wyAt m c (t.val + 1) = wyAt m c 32 := wyAt_late m c _ (by omega)
    have e9 : X9 = wyAt m c 32 := (h9 (by omega)).trans (wyAt_late m c _ hge)
    subst e9
    rw [e1]
    have es : scoreRow (rowOf (wyAt m c 32) j) (iblk m c 4 t) (iblk m c 5 t) = rawRow m c j := by
      rw [iblk4_eq m c t j hj, iblk5_eq m c t j hj]; rfl
    have em : iblk m c 6 t = masks m c := iblk6_eq m c t
    by_cases h0 : j.val = 0
    · iintro ⟨H, Hk⟩
      iapply (score_first c (grid0.coords t) _ _ _ _ _ _ _ _ _ _ _ _ _ _ _ _ _ _ _ _ _ _ _ _ _ _ _ j (hc.trans hj) h0 K)
      isplitl [H]; · iexact H
      iintro H
      iapply Hk
      iexists _
      isplitr
      swap; · iexact H
      ipureintro
      rw [es, hj]
      exact done_first m c j h0 X8
    · obtain ⟨p, hp⟩ : ∃ p : Fin 32, j.val = p.val + 1 := ⟨⟨j.val - 1, by omega⟩, by show j.val = j.val - 1 + 1; omega⟩
      have hX : Done m c (32 + p.val) X8 := by
        have := h8 (by omega)
        rwa [show t.val - 1 = 32 + p.val by omega] at this
      by_cases h31 : j.val = 31
      · iintro ⟨H, Hk⟩
        iapply (score_last c (grid0.coords t) _ _ _ _ _ _ _ _ _ _ _ _ _ _ _ _ _ _ _ _ _ _ _ _ _ _ _ j p (hc.trans hj) hp h31 K)
        isplitl [H]; · iexact H
        iintro H
        iapply Hk
        iexists _
        isplitr
        swap; · iexact H
        ipureintro
        rw [es, hj, em]
        exact done_last m c j p hp h31 X8 hX
      · iintro ⟨H, Hk⟩
        iapply (score_step c (grid0.coords t) _ _ _ _ _ _ _ _ _ _ _ _ _ _ _ _ _ _ _ _ _ _ _ _ _ _ _ j p (hc.trans hj) hp h31 K)
        isplitl [H]; · iexact H
        iintro H
        iapply Hk
        iexists _
        isplitr
        swap; · iexact H
        ipureintro
        rw [es, hj, em]
        exact done_step m c j p hp h31 X8 hX

/-- The body at a point, between the invariants of its two ends. -/
theorem sound_body (t : Fin cfg0.N) :
    bodyPre m c t ⊢ wp frame (wpE (defs₀ (F := F)) Variants.none c none) Set.univ (bodyAt0 t) (fun _ => bodyPost m c t) := by
  unfold bodyPre bodyPost inv
  simp only [before0, before1, before2, before3, before4, before5, before6]
  iintro ⟨⟨⟨%X9, %h9, HS⟩, Hg⟩, HO, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (point m c t Y X9 (fun h => found m c t h Y hY) h9 _)
  isplitl [H0 H1 H2 H3 H4 H5 H6 H7 HS]
  · unfold heldAt held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  unfold heldAt held
  iintro ⟨%Y8, %hD, H0, H1, H2, H3, H4, H5, H6, H7, HS⟩
  isplitl [HS Hg]
  · isplitl [HS]
    · iexists _
      isplitr
      swap; · iexact HS
      ipureintro; exact fun _ => rfl
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists Y8
  isplitr
  · ipureintro; exact hD
  iexact H7

/-- The pipeline calls the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, the output held to the rows done. -/
theorem body_obligation : BodyObligationRel (dat m c) (defs₀ (F := F)) Variants.none () Set.univ marked (rel m c) := fun t => by
  rw [bigSep_W0, bigSep_W0, defs₀_row]
  exact triple_restated (sound_body m c t) rfl .rfl fun _ => .rfl

end Cert.KernelIdeal.Hand

end
-- ==== Proof.KernelEnd.lean ====
/-
  The kernel's run. From any memory with zero counters the program ends with the result array at `result`, whose row `r`
  is the masked log-softmax of the scores of row `r`, with its arguments as they were and the counters at zero.
-/
module

public import proofs.«01_k».proof.Proof.KernelRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]
variable (m : (ℓ : Loc nD τ sig) → Buf (Elt F) ℓ) (c : Dev nD) (ρ : Dev nD → PrngReg)

local notation "𝕄" => MT nD τ sig Unit (Elt F) ℕ (UR sig nD τ) ℕ

/-- What the launch hands the region is the invariant before the first point. -/
theorem inv_start : (Pipeline.ΦA spec0 c : sProp 𝕄) ⊢ inv m c 0 := by
  unfold Pipeline.ΦA inv
  rw [scopedRest0_eq]
  iintro ⟨⟨%f, H⟩, Hg⟩
  isplitl [H]
  · iexists f
    isplitr
    · ipureintro; exact fun h => absurd rfl h
    simp only [owns_whole]
    iexact H
  iexact Hg

/-- The invariant after the last point gives the scratch and the register back. -/
theorem inv_end (n : ℕ) : inv m c n ⊢ (Pipeline.ΦA spec0 c : sProp 𝕄) := by
  unfold Pipeline.ΦA inv
  rw [scopedRest0_eq]
  simp only [owns_whole]
  iintro ⟨⟨%X, -, H⟩, Hg⟩
  isplitl [H]
  · iexists X
    iexact H
  iexact Hg

set_option backward.isDefEq.respectTransparency.types false in
/-- The launch: every window's array ends at contents its write-backs allow, every other buffer as it was, the counters at zero. -/
theorem run_main : θ_run defs (onTc (τ := τ) (main (F := F))) ⟨m, fun _ => 0, ρ⟩
    (fun r => RDat.FramePost (cfgs 0) (fun c => (dat m c).toRRel marked (rel m c)) (V m) r ∧ r.2.sem = fun _ => 0) :=
  Pipeline.RDat.θ_run_frame_track_shared cfgs (0 : Fin 1) launch₀0 defs₀ Variants.none
    (fun c => (dat m c).toRRel marked (rel m c)) m ρ main
    (hbody := fun c => (body_obligation m c).toRRel) (hq := fun _ _ _ => rfl) (howed := fun _ _ => rfl) (V := V m)
    (hmain := hmain m Variants.none) (hA := fun _ _ => rfl) (hin := fun c => inv_start m c) (hout := fun c => inv_end m c _)
    (Q' := _) (hQ' := fun _ h => h)

/-- The output's block at a point is the whole array. -/
theorem block7 (t : Fin cfg0.N) (y : S32x4x1024.Idx) : ((cfg0.win 7).blk t).view.emb y = y := by
  funext a; apply Fin.ext
  match a with
  | ⟨0, _⟩ => show win0_7.index t (0 : Fin 3) * 32 + 1 * (y 0).val = (y 0).val; rw [(index7 t).1]; omega
  | ⟨1, _⟩ => show win0_7.index t (1 : Fin 3) * 4 + 1 * (y 1).val = (y 1).val; rw [(index7 t).2.1]; omega
  | ⟨2, _⟩ => show win0_7.index t (2 : Fin 3) * 1024 + 1 * (y 2).val = (y 2).val; rw [(index7 t).2.2]; omega

/-- The result array, once every write-back is made, is `result`. -/
theorem final_result (G) (h : ((dat m c).toRRel marked (rel m c)).ArrAt 7 cfg0.N G) : G = result m c := by
  have hN : cfg0.N = 63 + 1 := N_0
  have hlt : 63 < cfg0.N := by rw [hN]; omega
  have h' : ((dat m c).toRRel marked (rel m c)).ArrAt 7 ((⟨63, hlt⟩ : Fin cfg0.N).val + 1) G := hN ▸ h
  rw [RDat.ArrAt_succ, if_pos ((flush0_7 _).2 rfl)] at h'
  obtain ⟨G₀, X, -, hX, rfl⟩ := h'
  have hd : Done m c 63 X := (dat m c).toRRel_leaves (w := 7) rfl hX
  have e : X = result m c := done_all m c X hd
  subst e
  funext y
  have := View.write_emb_of_mem (v := ((cfg0.win 7).blk ⟨63, hlt⟩).view) (Val := Elt F) G₀
    ((cfg0.win 7).cut (cfg0.grid.coords ⟨63, hlt⟩) (result m c)) (Finset.mem_univ y)
  rw [block7] at this
  exact this

/-- The run: the result array ends at `result`, the arguments as they were, the counters at zero. -/
theorem run : θ_run defs (onTc (τ := τ) (main (F := F))) ⟨m, fun _ => 0, ρ⟩ (fun r => (∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r ⟨h, hs⟩ => ⟨fun c => by
    have rest (b) (h1) (h2) := (h c).2 b (Pipeline.mem_restRefs_of b h1 h2)
    have e1 := (h c).1 1
    have e2 := (h c).1 2
    have e7 := (h c).1 7
    rw [RDat.ArrAt_in _ 1 rfl] at e1
    rw [RDat.ArrAt_in _ 2 rfl] at e2
    exact ⟨final_result m c _ e7,
      (rest main_arg0 (by decide) (by decide)).trans (V_main_arg0 m c), Eq.trans e1 (V_main_arg1 m c),
      (rest main_arg2 (by decide) (by decide)).trans (V_main_arg2 m c), (rest main_arg3 (by decide) (by decide)).trans (V_main_arg3 m c),
      Eq.trans e2 (V_main_arg4 m c), (rest main_arg5 (by decide) (by decide)).trans (V_main_arg5 m c)⟩, hs⟩) (run_main m ρ)

end Cert.KernelIdeal.Hand

end
-- ==== Proof.Frames.lean ====
/-
  The frame claims: each of the three programs ends with its arguments as it found them and with every counter at zero.
-/
module

public import proofs.«01_k».proof.Defs
public import proofs.«01_k».proof.Proof.BitsEnd
public import proofs.«01_k».proof.Proof.KernelEnd
public import proofs.«01_k».proof.Proof.Gen.Kernel
public import proofs.«01_k».proof.Proof.Gen.KernelIdeal
public import proofs.«01_k».proof.Proof.Gen.ReferenceIdeal.Run
public import Idealize.ShloMosaic.Lib.Quiescent

@[expose] public section

noncomputable section

namespace Cert.Proof

open Idealize.ShloMosaic Idealize.SL.Sem

/-- The kernel on bits keeps its arguments and ends with its counters at zero. -/
theorem frame_kernel : Cert.quiescent_Kernel (hKernel := Cert.Kernel.Gen.facts) := fun m g _ =>
  (θ_run _ _ _).mono (fun _ h => ⟨fun c => (h.1 c).2, h.2⟩) (Cert.Kernel.Hand.run (F := Bits) m g)

/-- So does the kernel over the extended reals. -/
theorem frame_kernel_ideal : Cert.quiescent_KernelIdeal (hKernelIdeal := Cert.KernelIdeal.Gen.facts) := fun m g _ =>
  (θ_run _ _ _).mono (fun _ h => ⟨fun c => (h.1 c).2, h.2⟩) (Cert.KernelIdeal.Hand.run (F := Ideal) m g)

/-- So does the reference, which has no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

end Cert.Proof

end
-- ==== Proof.Spec.lean ====
/-
  The mathematics of the problem over the extended reals: the query of a sample carried through the matrix and bias of
  its action, the scores of a sample's positions against it, and the log-softmax of a row with its hidden positions at −∞.
-/
module

public import Idealize.ShloMosaic.Lib.Pointwise

@[expose] public section

noncomputable section

namespace Cert.Bilinear

open Idealize.ShloMosaic

/-- The sample of row `a` in group `r`. -/
abbrev sample (r : Fin 32) (a : Fin 4) : Fin 128 := ⟨r.val * 4 + a.val, by omega⟩

/-- The query of sample `b` carried through matrix and bias `a`. -/
def query (Y : (⟨2, ![128, 1024]⟩ : Shape).Idx → EReal) (W : (⟨3, ![32, 1024, 1024]⟩ : Shape).Idx → EReal)
    (B : (⟨2, ![32, 1024]⟩ : Shape).Idx → EReal) (a : Fin 32) (b : Fin 128) (x : Fin 1024) : EReal :=
  (∑ k, Y (ix2 b k) * W (ix3 a k x)) + B (ix2 a x)

/-- The score of position `l` of sample `b` against `q`. -/
def score (X : (⟨3, ![128, 1024, 1024]⟩ : Shape).Idx → EReal) (q : Fin 1024 → EReal) (b : Fin 128) (l : Fin 1024) : EReal :=
  ∑ k, X (ix3 b l k) * q k

/-- −∞, as its word reads. -/
def negInf : EReal := Ideal.ofBits .f32 0xFF800000#32

/-- A score, −∞ where the position is hidden. -/
def hide (h : BitVec 1) (s : EReal) : EReal := Scalar.select h negInf s

/-- The greatest entry of a row. -/
def rowMax (f : Fin 1024 → EReal) : EReal := Finset.univ.fold max negInf f

/-- The log-softmax of a row. -/
def logSoftmax (f : Fin 1024 → EReal) (l : Fin 1024) : EReal :=
  f l - rowMax f - Ideal.log (∑ k, Ideal.exp (f k - rowMax f))

/-- The result of the problem at sample `b`, position `l`, when the sample's action is `a`. -/
def answer (X : (⟨3, ![128, 1024, 1024]⟩ : Shape).Idx → EReal) (Y : (⟨2, ![128, 1024]⟩ : Shape).Idx → EReal)
    (H : (⟨2, ![128, 1024]⟩ : Shape).Idx → BitVec 1) (W : (⟨3, ![32, 1024, 1024]⟩ : Shape).Idx → EReal)
    (B : (⟨2, ![32, 1024]⟩ : Shape).Idx → EReal) (a : Fin 32) (b : Fin 128) (l : Fin 1024) : EReal :=
  logSoftmax (fun k => hide (H (ix2 b k)) (score X (query Y W B a b) b k)) l

/-- Taking the maximum with the starting value once more changes nothing. -/
theorem max_negInf_rowMax (f : Fin 1024 → EReal) : max negInf (rowMax f) = rowMax f :=
  max_eq_right ((Finset.le_fold_max _).2 (Or.inl le_rfl))

/-- A mask bit widened to a word is nonzero exactly where the bit is set. -/
theorem ne_zero_of_bit (b : BitVec 1) : IntOp.cmpi .ne (b.setWidth 32) 0#32 = b := by
  revert b; decide

theorem select_one {α : Type} (x y : α) : Scalar.select 1#1 x y = x := rfl
theorem select_zero {α : Type} (x y : α) : Scalar.select 0#1 x y = y := rfl

/-- Two numbers under 32 have equal words exactly when they are equal. -/
theorem eq_word (a n : ℕ) (ha : a < 32) (hn : n < 32) :
    IntOp.cmpi .eq (BitVec.ofNat 32 a) (BitVec.ofNat 32 n) = if a = n then 1#1 else 0#1 := by
  unfold IntOp.cmpi
  by_cases h : a = n
  · subst h; simp
  · have : BitVec.ofNat 32 a ≠ BitVec.ofNat 32 n := fun e => h (by
      have := congrArg BitVec.toNat e
      simp only [BitVec.toNat_ofNat] at this
      omega)
    simp only [beq_eq_false_iff_ne.2 this, if_neg h]; rfl

end Cert.Bilinear

end
-- ==== Proof.KernelArrays.lean ====
/-
  The arrays the region finds, read at an index as the arguments: the actions as a column, the bias with a unit axis, the
  samples grouped in fours and cut in halves, the mask widened to words and grouped in fours.
-/
module

public import proofs.«01_k».proof.Proof.KernelBlocks
public import proofs.«01_k».proof.Proof.Spec
public import Idealize.ShloMosaic.Lib.StableHlo.Run
public import Idealize.ShloMosaic.Lib.Pipeline.Value

@[expose] public section

set_option maxRecDepth 16384

noncomputable section

namespace Cert.KernelIdeal.Hand

open Cert.KernelIdeal Cert.KernelIdeal.Gen Cert.Bilinear
open Idealize.ShloMosaic Idealize.ShloMosaic.TcCoe Idealize.ShloMosaic.Pointwise

variable (m : (ℓ : Loc nD τ sig) → Buf (Elt Ideal) ℓ) (c : Dev nD)

theorem acts_eq : acts (F := Ideal) m c = shapeCast S128x1 (m ((c.tc : Thread nD τ).loc main_arg3)) shapeCasts_S128_S128x1 := by
  show StableHlo.after hostOps0 _ (Proc.devRef .tc main_v0) = _
  after_results
  rfl

theorem biases_eq : biases (F := Ideal) m c
    = shapeCast S32x1x1024 (m ((c.tc : Thread nD τ).loc main_arg5)) shapeCasts_S32x1024_S32x1x1024 := by
  show StableHlo.after hostOps0 _ (Proc.devRef .tc main_v1) = _
  after_results
  rfl

theorem xs_eq : xs (F := Ideal) m c
    = shapeCast S32x4x2x512x1024 (m ((c.tc : Thread nD τ).loc main_arg0)) shapeCasts_S128x1024x1024_S32x4x2x512x1024 := by
  show StableHlo.after hostOps0 _ (Proc.devRef .tc main_v2) = _
  after_results
  rfl

theorem masks_eq : masks (F := Ideal) m c
    = shapeCast S32x4x1024 (extui 32 (m ((c.tc : Thread nD τ).loc main_arg2)) natLt_1_32 : IVec S128x1024 32) shapeCasts_S128x1024_S32x4x1024 := by
  show StableHlo.after hostOps0 _ (Proc.devRef .tc main_v4) = _
  after_results
  rfl

/-- The queries are an argument. -/
theorem ys_eq : ys (F := Ideal) m c = m ((c.tc : Thread nD τ).loc main_arg1) := by
  show StableHlo.after hostOps0 _ (Proc.devRef .tc main_arg1) = _
  after_results

/-- The weight matrices are an argument. -/
theorem weights_eq : weights (F := Ideal) m c = m ((c.tc : Thread nD τ).loc main_arg4) := by
  show StableHlo.after hostOps0 _ (Proc.devRef .tc main_arg4) = _
  after_results

/-- The action column at a sample. -/
theorem acts_apply (b : Fin 128) : acts (F := Ideal) m c (ix2 b 0) = m ((c.tc : Thread nD τ).loc main_arg3) (ix1 b) := by
  rw [acts_eq]; pointwise

/-- The bias of an action at a feature. -/
theorem biases_apply (a : Fin 32) (x : Fin 1024) :
    biases (F := Ideal) m c (ix3 a 0 x) = m ((c.tc : Thread nD τ).loc main_arg5) (ix2 a x) := by
  rw [biases_eq]; pointwise

/-- The mask word of a sample at a position. -/
theorem masks_apply (r : Fin 32) (a : Fin 4) (l : Fin 1024) :
    masks (F := Ideal) m c (ix3 r a l) = (m ((c.tc : Thread nD τ).loc main_arg2) (ix2 (sample r a) l) : BitVec 1).setWidth 32 := by
  rw [masks_eq]; pointwise

/-- An array of samples grouped in fours and cut in halves, at an index. -/
theorem halves_apply {α : Type} (X : S128x1024x1024.Idx → α) (r : Fin 32) (a : Fin 4) (h : Fin 2) (p : Fin 512) (q : Fin 1024) :
    shapeCast S32x4x2x512x1024 X shapeCasts_S128x1024x1024_S32x4x2x512x1024 (ix5 r a h p q)
      = X (ix3 (sample r a) ⟨h.val * 512 + p.val, by omega⟩ q) := by
  refine _root_.Idealize.ShloMosaic.shapeCast_apply _ _ _ _ ?_
  rw [Shape.rowMajor_val_three, Shape.rowMajor_val_five]
  show ((r.val * 4 + a.val) * 1024 + (h.val * 512 + p.val)) * 1024 + q.val
    = (((r.val * 4 + a.val) * 2 + h.val) * 512 + p.val) * 1024 + q.val
  omega

/-- The samples: position `512 h + p` of sample `4 r + a`. -/
theorem xs_apply (r : Fin 32) (a : Fin 4) (h : Fin 2) (p : Fin 512) (q : Fin 1024) :
    xs (F := Ideal) m c (ix5 r a h p q)
      = m ((c.tc : Thread nD τ).loc main_arg0) (ix3 (sample r a) ⟨h.val * 512 + p.val, by omega⟩ q) := by
  rw [xs_eq]; exact halves_apply _ r a h p q

end Cert.KernelIdeal.Hand

end
-- ==== Proof.KernelPays.lean ====
/-
  The kernel's vector computations read at an index over the extended reals: a weight point's term, a row of scores, and
  the masked log-softmax of a row.
-/
module

public import proofs.«01_k».proof.Proof.KernelRun
public import proofs.«01_k».proof.Proof.Spec

@[expose] public section

set_option maxRecDepth 16384

noncomputable section

namespace Cert.KernelIdeal.Hand

open Cert.KernelIdeal Cert.KernelIdeal.Gen Cert.Bilinear
open Idealize.ShloMosaic Idealize.ShloMosaic.Pointwise

/-! ## Windows of arrays -/

theorem rowOf_ix {α : Type} (X : S32x4x1024.Idx → α) (r : Fin 32) (a : Fin 4) (l : Fin 1024) :
    rowOf X r (ix3 0 a l) = X (ix3 r a l) := by
  rw [ix3_eq_valueIdx, ix3_eq_valueIdx]; exact rowOf_apply X r a l

theorem biasRow_ix (X : FVec Ideal S32x1x1024 .f32) (a : Fin 32) (x : Fin 1024) :
    biasRow (F := Ideal) X a (ix3 0 0 x) = X (ix3 a 0 x) := by
  unfold biasRow VecWindow.window
  congr 1; funext d; apply Fin.ext
  match d with
  | ⟨0, _⟩ => show a.val + 1 * 0 = a.val; omega
  | ⟨1, _⟩ => rfl
  | ⟨2, _⟩ => show 0 + 1 * x.val = x.val; omega

theorem slabOf_ix (X : FVec Ideal S1x4x1x512x1024 .f32) (k : Fin 4) (p : Fin 512) (q : Fin 1024) :
    slabOf X k (ix5 0 0 0 p q) = X (ix5 0 k 0 p q) := by
  unfold slabOf VecWindow.window
  congr 1; funext d; apply Fin.ext
  match d with
  | ⟨0, _⟩ => rfl
  | ⟨1, _⟩ => show k.val + 1 * 0 = k.val; omega
  | ⟨2, _⟩ => rfl
  | ⟨3, _⟩ => show 0 + 1 * p.val = p.val; omega
  | ⟨4, _⟩ => show 0 + 1 * q.val = q.val; omega

/-! ## The payloads -/

/-- The scratch starts at zero. -/
theorem pay1_apply (r : Fin 32) (a : Fin 4) (x : Fin 1024) : k0_pay1 (F := Ideal) (ix3 r a x) = 0 := by
  pointwise [k0_pay1]

/-- A weight point whose number is the sample's action adds the matrix and bias term. -/
theorem pay2_hit (i : grid0.Coords) (A : IVec S128x1 32) (Y : FVec Ideal S128x1024 .f32) (W : FVec Ideal S1x1024x1024 .f32)
    (B : FVec Ideal S1x1x1024 .f32) (S : FVec Ideal S32x4x1024 .f32) (r : Fin 32) (a : Fin 4) (x : Fin 1024)
    (h : IntOp.cmpi .eq (A (ix2 (sample r a) 0)) (BitVec.ofNat 32 (i 0).val) = 1#1) :
    k0_pay2 (F := Ideal) i A Y W B S (ix3 r a x)
      = S (ix3 r a x) + ((∑ k, Y (ix2 (sample r a) k) * W (ix3 0 k x)) + B (ix3 0 0 x)) := by
  pointwise [k0_pay2]
  simp only [h, select_one]

/-- A weight point whose number is not the sample's action adds nothing. -/
theorem pay2_miss (i : grid0.Coords) (A : IVec S128x1 32) (Y : FVec Ideal S128x1024 .f32) (W : FVec Ideal S1x1024x1024 .f32)
    (B : FVec Ideal S1x1x1024 .f32) (S : FVec Ideal S32x4x1024 .f32) (r : Fin 32) (a : Fin 4) (x : Fin 1024)
    (h : IntOp.cmpi .eq (A (ix2 (sample r a) 0)) (BitVec.ofNat 32 (i 0).val) = 0#1) :
    k0_pay2 (F := Ideal) i A Y W B S (ix3 r a x) = S (ix3 r a x) := by
  pointwise [k0_pay2]
  simp only [h, select_zero, Finset.sum_const_zero, add_zero]

/-- A score of the row's sample `a`: the first half's block at the first 512 positions, the second half's at the rest. -/
theorem score_apply (v : FVec Ideal S1x4x1024 .f32) (X5 X6 : FVec Ideal S1x4x1x512x1024 .f32) (a : Fin 4) (x : Fin 1024) :
    scoreRow (F := Ideal) v X5 X6 (ix3 0 a x)
      = if h : x.val < 512 then ∑ q, v (ix3 0 a q) * X5 (ix5 0 a 0 ⟨x.val, h⟩ q)
        else ∑ q, v (ix3 0 a q) * X6 (ix5 0 a 0 ⟨x.val - 512, by omega⟩ q) := by
  unfold scoreRow
  pointwise [k0_pay3, k0_pay6, k0_pay7, k0_pay8, k0_pay9]
  simp only [slabOf_ix]
  match a with
  | ⟨0, _⟩ => rfl
  | ⟨1, _⟩ => rfl
  | ⟨2, _⟩ => rfl
  | ⟨3, _⟩ => rfl

/-- The masked log-softmax of a row. -/
theorem pay4_apply (X : FVec Ideal S1x4x1024 .f32) (M : IVec S1x4x1024 32) (a : Fin 4) (l : Fin 1024) :
    k0_pay4 (F := Ideal) X M (ix3 0 a l)
      = logSoftmax (fun x => hide (IntOp.cmpi .ne (M (ix3 0 a x)) 0#32) (X (ix3 0 a x))) l := by
  pointwise [k0_pay4]
  rfl

end Cert.KernelIdeal.Hand

end
-- ==== Proof.KernelValue.lean ====
/-
  The kernel's result at an index, for actions in range: the log-softmax of the sample's masked scores. The scratch after
  the first `n` weight points holds the carried query of every sample whose action is below `n`, and zero elsewhere.
-/
module

public import proofs.«01_k».proof.Proof.KernelArrays
public import proofs.«01_k».proof.Proof.KernelPays

@[expose] public section

set_option maxRecDepth 16384

noncomputable section

namespace Cert.KernelIdeal.Hand

open Cert.KernelIdeal Cert.KernelIdeal.Gen Cert.Bilinear
open Idealize.ShloMosaic Idealize.ShloMosaic.TcCoe Idealize.ShloMosaic.Pointwise

variable (m : (ℓ : Loc nD τ sig) → Buf (Elt Ideal) ℓ) (c : Dev nD)

/-- The carried query of sample `b` under action `a`, from the arguments as the kernel's memory holds them. -/
abbrev queryAt (a : Fin 32) (b : Fin 128) (x : Fin 1024) : EReal :=
  query (m ((c.tc : Thread nD τ).loc main_arg1)) (m ((c.tc : Thread nD τ).loc main_arg4)) (m ((c.tc : Thread nD τ).loc main_arg5)) a b x

/-- The word of a weight point's number. -/
theorem point_word (n : ℕ) (h : n < 64) : ((grid0.coords (pt n h)) 0).val = n := coords_val (pt n h)

/-- The term of weight point `n`: matrix and bias `n` applied to the sample's query. -/
theorem term_eq (n : Fin 32) (r : Fin 32) (a : Fin 4) (x : Fin 1024) :
    (∑ k, ys (F := Ideal) m c (ix2 (sample r a) k) * weightBlock (F := Ideal) m c n (ix3 0 k x))
        + biasRow (F := Ideal) (biases (F := Ideal) m c) n (ix3 0 0 x)
      = queryAt m c n (sample r a) x := by
  rw [biasRow_ix, biases_apply, ys_eq]
  have hw : ∀ k, weightBlock (F := Ideal) m c n (ix3 0 k x) = m ((c.tc : Thread nD τ).loc main_arg4) (ix3 n k x) := by
    intro k
    show weights (F := Ideal) m c _ = _
    rw [weights_eq, ix3_eq_valueIdx]
    rfl
  simp only [hw]
  rfl

variable (act : Fin 128 → Fin 32)
  (hact : ∀ b, m ((c.tc : Thread nD τ).loc main_arg3) (ix1 b) = BitVec.ofNat 32 (act b).val)

include hact in
/-- The scratch after `n` weight points. -/
theorem wyAt_apply (n : ℕ) (hn : n ≤ 32) (r : Fin 32) (a : Fin 4) (x : Fin 1024) :
    wyAt (F := Ideal) m c n (ix3 r a x)
      = if (act (sample r a)).val < n then queryAt m c (act (sample r a)) (sample r a) x else 0 := by
  induction n with
  | zero => rw [if_neg (Nat.not_lt_zero _)]; exact pay1_apply r a x
  | succ n ih =>
    have h32 : n < 32 := hn
    have hstep : wyAt (F := Ideal) m c (n + 1) = k0_pay2 (F := Ideal) (grid0.coords (pt n (by omega))) (acts m c) (ys m c)
        (weightBlock m c ⟨n, h32⟩) (biasRow (biases m c) ⟨n, h32⟩) (wyAt m c n) := by
      show (if h : n < 32 then _ else _) = _
      rw [dif_pos h32]
    have hw : IntOp.cmpi .eq (acts (F := Ideal) m c (ix2 (sample r a) 0)) (BitVec.ofNat 32 ((grid0.coords (pt n (by omega))) 0).val)
        = if (act (sample r a)).val = n then 1#1 else 0#1 := by
      rw [acts_apply, hact, point_word, eq_word _ _ (act (sample r a)).isLt h32]
    rw [hstep]
    by_cases he : (act (sample r a)).val = n
    · rw [if_pos he] at hw
      rw [pay2_hit _ _ _ _ _ _ _ _ _ hw, ih (by omega), if_neg (by omega), if_pos (by omega), zero_add, term_eq]
      congr 1
      exact Fin.ext he.symm
    · rw [if_neg he] at hw
      rw [pay2_miss _ _ _ _ _ _ _ _ _ hw, ih (by omega)]
      by_cases hl : (act (sample r a)).val < n
      · rw [if_pos hl, if_pos (by omega)]
      · rw [if_neg hl, if_neg (by omega)]

/-- Half `h` of row `r`'s samples at an index. -/
theorem xBlock_apply (r : Fin 32) (h : Fin 2) (a : Fin 4) (p : Fin 512) (q : Fin 1024) :
    xBlock (F := Ideal) m c r h (ix5 0 a 0 p q)
      = m ((c.tc : Thread nD τ).loc main_arg0) (ix3 (sample r a) ⟨h.val * 512 + p.val, by omega⟩ q) := by
  rw [← xs_apply m c]
  show xs (F := Ideal) m c _ = _
  rw [ix5_eq_valueIdx, ix5_eq_valueIdx]

include hact in
/-- The raw scores of row `r`. -/
theorem rawRow_apply (r : Fin 32) (a : Fin 4) (l : Fin 1024) :
    rawRow (F := Ideal) m c r (ix3 0 a l)
      = score (m ((c.tc : Thread nD τ).loc main_arg0)) (queryAt m c (act (sample r a)) (sample r a)) (sample r a) l := by
  have hq : ∀ q, rowOf (wyAt (F := Ideal) m c 32) r (ix3 0 a q) = queryAt m c (act (sample r a)) (sample r a) q := by
    intro q
    rw [rowOf_ix, wyAt_apply m c act hact 32 le_rfl, if_pos (act (sample r a)).isLt]
  unfold rawRow score
  rw [score_apply]
  by_cases h : l.val < 512
  · rw [dif_pos h]
    refine Finset.sum_congr rfl fun q _ => ?_
    rw [hq, xBlock_apply, mul_comm]
    congr 3
    exact Fin.ext (by show 0 * 512 + l.val = l.val; omega)
  · rw [dif_neg h]
    refine Finset.sum_congr rfl fun q _ => ?_
    rw [hq, xBlock_apply, mul_comm]
    congr 3
    exact Fin.ext (by show 1 * 512 + (l.val - 512) = l.val; omega)

include hact in
/-- The kernel's result at an index. -/
theorem result_apply (r : Fin 32) (a : Fin 4) (l : Fin 1024) :
    result (F := Ideal) m c (ix3 r a l)
      = answer (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (act (sample r a)) (sample r a) l := by
  have h : result (F := Ideal) m c (ix3 r a l) = softRow (F := Ideal) m c r (ix3 0 a l) := by
    rw [ix3_eq_valueIdx, ix3_eq_valueIdx]; rfl
  rw [h]
  unfold softRow answer
  rw [pay4_apply]
  congr 1
  funext k
  rw [rowOf_ix, masks_apply, ne_zero_of_bit, rawRow_apply m c act hact]

end Cert.KernelIdeal.Hand

end
-- ==== Proof.RefQuery.lean ====
/-
  The reference's carried query at an index, for actions in range: its two gathers read the matrix and the bias of the
  sample's action, and its first product contracts the query with that matrix.
-/
module

public import proofs.«01_k».proof.Proof.Gen.ReferenceIdeal.Read
public import proofs.«01_k».proof.Proof.Spec

@[expose] public section

set_option maxRecDepth 16384

noncomputable section

namespace Cert.ReferenceIdeal.Hand

open Cert.ReferenceIdeal Cert.ReferenceIdeal.Gen Cert.ReferenceIdeal.Read Cert.Bilinear
open Idealize.ShloMosaic Idealize.ShloMosaic.TcCoe

/-! ## Action words -/

theorem word_not_negative : ∀ a : Fin 32, IntOp.cmpi .slt (BitVec.ofNat 32 a.val) 0#32 = 0#1 := by decide
theorem word_value : ∀ a : Fin 32, (BitVec.ofNat 32 a.val).toInt.toNat = a.val := by decide

/-! ## The two gathers -/

/-- Which start word result index `(b, k, y)` of the matrix gather reads. -/
theorem matrix_start (b : Fin 128) (k y : Fin 1024) (j : Fin gather_S32x1024x1024_S128x1_S128x1024x1024_12_0_n_n_0_1_110241024.startIndexMap.length) :
    gather_S32x1024x1024_S128x1_S128x1024x1024_12_0_n_n_0_1_110241024.siIdx (ix3 b k y) j = ix2 b 0 := by
  obtain rfl : j = ⟨0, by decide⟩ := Subsingleton.elim (α := Fin 1) _ _
  funext d
  match d with
  | ⟨0, _⟩ => rfl
  | ⟨1, _⟩ => rfl

/-- The matrix gather reads the matrix its start word numbers. -/
theorem gather_matrix {α : Type} (W : S32x1024x1024.Idx → α) (idx : IVec S128x1 32) (a : Fin 32) (b : Fin 128) (k y : Fin 1024)
    (h : idx (ix2 b 0) = BitVec.ofNat 32 a.val) :
    Host.gather gather_S32x1024x1024_S128x1_S128x1024x1024_12_0_n_n_0_1_110241024 W idx (ix3 b k y) = W (ix3 a k y) := by
  unfold Host.gather
  congr 1; funext d; apply Fin.ext
  match d with
  | ⟨0, _⟩ =>
    show gather_S32x1024x1024_S128x1_S128x1024x1024_12_0_n_n_0_1_110241024.start (ix3 b k y) idx 0 + 0 + 0 = a.val
    unfold GatherDims.start
    rw [dif_pos (show (0 : Fin 3) ∈ gather_S32x1024x1024_S128x1_S128x1024x1024_12_0_n_n_0_1_110241024.startIndexMap by decide),
      matrix_start, h, word_value]
    have := a.isLt
    show min a.val 31 + 0 + 0 = a.val
    omega
  | ⟨1, _⟩ => show 0 + 0 + k.val = k.val; omega
  | ⟨2, _⟩ => show 0 + 0 + y.val = y.val; omega

/-- Which start word result index `(b, y)` of the bias gather reads. -/
theorem bias_start (b : Fin 128) (y : Fin 1024) (j : Fin gather_S32x1024_S128x1_S128x1024_1_0_n_n_0_1_11024.startIndexMap.length) :
    gather_S32x1024_S128x1_S128x1024_1_0_n_n_0_1_11024.siIdx (ix2 b y) j = ix2 b 0 := by
  obtain rfl : j = ⟨0, by decide⟩ := Subsingleton.elim (α := Fin 1) _ _
  funext d
  match d with
  | ⟨0, _⟩ => rfl
  | ⟨1, _⟩ => rfl

/-- The bias gather reads the row its start word numbers. -/
theorem gather_bias {α : Type} (B : S32x1024.Idx → α) (idx : IVec S128x1 32) (a : Fin 32) (b : Fin 128) (y : Fin 1024)
    (h : idx (ix2 b 0) = BitVec.ofNat 32 a.val) :
    Host.gather gather_S32x1024_S128x1_S128x1024_1_0_n_n_0_1_11024 B idx (ix2 b y) = B (ix2 a y) := by
  unfold Host.gather
  congr 1; funext d; apply Fin.ext
  match d with
  | ⟨0, _⟩ =>
    show gather_S32x1024_S128x1_S128x1024_1_0_n_n_0_1_11024.start (ix2 b y) idx 0 + 0 + 0 = a.val
    unfold GatherDims.start
    rw [dif_pos (show (0 : Fin 2) ∈ gather_S32x1024_S128x1_S128x1024_1_0_n_n_0_1_11024.startIndexMap by decide),
      bias_start, h, word_value]
    have := a.isLt
    show min a.val 31 + 0 + 0 = a.val
    omega
  | ⟨1, _⟩ => show 0 + 0 + y.val = y.val; omega

/-! ## The carried query -/

variable (x0 : S128x1024x1024.Idx → EReal) (x1 : S128x1024.Idx → EReal) (x2 : S128x1024.Idx → BitVec 1) (x3 : S128.Idx → BitVec 32)
  (x4 : S32x1024x1024.Idx → EReal) (x5 : S32x1024.Idx → EReal)
variable (act : Fin 128 → Fin 32) (hact : ∀ b, x3 (ix1 b) = BitVec.ofNat 32 (act b).val)

theorem drop_unit (b : Fin 128) : idx_main_v5 (ix2 b 0) = ix1 b := by
  funext d; match d with | ⟨0, _⟩ => rfl

include hact in
/-- The matrix gather's start word is the action. -/
theorem v5_word (b : Fin 128) : val_main_v5 (F := Ideal) x3 (ix2 b 0) = BitVec.ofNat 32 (act b).val := by
  rw [val_main_v5_apply, val_main_v4_apply, val_main_v1_apply, val_main_v0_apply, val_main_c_apply, drop_unit, hact,
    word_not_negative, select_zero]

include hact in
/-- So is the bias gather's. -/
theorem v12_word (b : Fin 128) : val_main_v12 (F := Ideal) x3 (ix2 b 0) = BitVec.ofNat 32 (act b).val :=
  v5_word x3 act hact b

include hact in
/-- The carried query of a sample. -/
theorem v15_apply (b : Fin 128) (y : Fin 1024) :
    val_main_v15 (F := Ideal) x1 x3 x4 x5 (ix2 b y) = query x1 x4 x5 (act b) b y := by
  rw [val_main_v15_apply, val_main_v14_apply]
  have hb : val_main_v13 (F := Ideal) x3 x5 (ix2 b y) = x5 (ix2 (act b) y) :=
    gather_bias x5 _ (act b) b y (v12_word x3 act hact b)
  have hl : ∀ k, lidx_main_v14 (ix2 b y) k = ix2 b k := fun k => by
    funext d; match d with | ⟨0, _⟩ => rfl | ⟨1, _⟩ => rfl
  have hr : ∀ k, ridx_main_v14 (ix2 b y) k = ix3 b k y := fun k => by
    funext d; match d with | ⟨0, _⟩ => rfl | ⟨1, _⟩ => rfl | ⟨2, _⟩ => rfl
  have hw : ∀ k, val_main_v6 (F := Ideal) x3 x4 (ix3 b k y) = x4 (ix3 (act b) k y) := fun k =>
    gather_matrix x4 _ (act b) b k y (v5_word x3 act hact b)
  simp only [hl, hr, hw, hb]
  rfl

include hact in
/-- The score of a position. -/
theorem v16_apply (b : Fin 128) (l : Fin 1024) :
    val_main_v16 (F := Ideal) x0 x1 x3 x4 x5 (ix2 b l) = score x0 (query x1 x4 x5 (act b) b) b l := by
  rw [val_main_v16_apply]
  have hl : ∀ k, lidx_main_v16 (ix2 b l) k = ix3 b l k := fun k => by
    funext d; match d with | ⟨0, _⟩ => rfl | ⟨1, _⟩ => rfl | ⟨2, _⟩ => rfl
  have hr : ∀ k, ridx_main_v16 (ix2 b l) k = ix2 b k := fun k => by
    funext d; match d with | ⟨0, _⟩ => rfl | ⟨1, _⟩ => rfl
  simp only [hl, hr, v15_apply x1 x3 x4 x5 act hact]
  rfl

include hact in
/-- The score, −∞ where the mask is set. -/
theorem v17_apply (b : Fin 128) (l : Fin 1024) :
    val_main_v17 (F := Ideal) x0 x1 x2 x3 x4 x5 (ix2 b l) = hide (x2 (ix2 b l)) (score x0 (query x1 x4 x5 (act b) b) b l) := by
  rw [val_main_v17_apply, v16_apply x0 x1 x3 x4 x5 act hact, val_main_call0_v1_apply]
  rfl

end Cert.ReferenceIdeal.Hand

end
-- ==== Proof.RefValue.lean ====
/-
  The reference's result at an index, for actions in range: the log-softmax of the sample's masked scores.
-/
module

public import proofs.«01_k».proof.Proof.RefQuery
public import Idealize.ShloMosaic.Lib.KernelVsHost

@[expose] public section

set_option maxRecDepth 16384

noncomputable section

namespace Cert.ReferenceIdeal.Hand

open Cert.ReferenceIdeal Cert.ReferenceIdeal.Gen Cert.ReferenceIdeal.Read Cert.Bilinear
open Idealize.ShloMosaic Idealize.ShloMosaic.TcCoe

/-- The host's row maximum from −∞ is the fold over the row. -/
theorem host_rowMax (Z : FVec Ideal S128x1024 .f32) (b : Fin 128) :
    Host.reduce FloatOps.maximumf Z (constant (F := Ideal) S_ .f32 0xFF800000#32) reducesTo_S128x1024_S128_d1 h_S_ (ix1 b)
      = rowMax fun l => Z (ix2 b l) := by
  have hr : S128x1024.Reduces [1] S128 := by decide
  have h := hostReduce_maximumf_eq_multiReduction (F := Ideal) (φ := .f32) Z 0xFF800000#32 reducesTo_S128x1024_S128_d1 h_S_ hr
    (.inl rfl) rfl
  refine (congrFun h (ix1 b)).trans ?_
  refine (Ideal.multiReduction_maximumf_single (φ := .f32) (a := (1 : Fin S128x1024.rank)) Z _ hr (.inl rfl) rfl (ix1 b)).trans ?_
  show Finset.univ.fold max negInf _ = _
  unfold rowMax
  congr 1
  funext l
  show Z (hr.lift (ix1 b) l) = Z (ix2 b l)
  congr 1; funext d
  match d with
  | ⟨0, _⟩ => rfl
  | ⟨1, _⟩ => rfl

variable (x0 : S128x1024x1024.Idx → EReal) (x1 : S128x1024.Idx → EReal) (x2 : S128x1024.Idx → BitVec 1) (x3 : S128.Idx → BitVec 32)
  (x4 : S32x1024x1024.Idx → EReal) (x5 : S32x1024.Idx → EReal)
variable (f : Fin 128 → Fin 1024 → EReal) (hf : ∀ b l, val_main_v17 (F := Ideal) x0 x1 x2 x3 x4 x5 (ix2 b l) = f b l)

include hf in
/-- The row maximum the reference subtracts. -/
theorem v2_apply (b : Fin 128) : val_main_call1_v2 (F := Ideal) x0 x1 x2 x3 x4 x5 (ix1 b) = rowMax (f b) := by
  have h0 : val_main_call1_v0 (F := Ideal) x0 x1 x2 x3 x4 x5 (ix1 b) = rowMax (f b) :=
    (host_rowMax _ b).trans (congrArg rowMax (funext fun l => hf b l))
  rw [val_main_call1_v2_apply, h0, val_main_call1_v1_apply]
  exact max_negInf_rowMax (f b)

include hf in
/-- A score less its row's maximum. -/
theorem v5_apply (b : Fin 128) (l : Fin 1024) :
    val_main_call1_v5 (F := Ideal) x0 x1 x2 x3 x4 x5 (ix2 b l) = f b l - rowMax (f b) := by
  have hi : idx_main_call1_v3 (idx_main_call1_v4 (ix2 b l)) = ix1 b := by
    funext d; match d with | ⟨0, _⟩ => rfl
  rw [val_main_call1_v5_apply, hf, val_main_call1_v4_apply, val_main_call1_v3_apply, hi, v2_apply x0 x1 x2 x3 x4 x5 f hf]
  rfl

include hf in
/-- The sum of a row's exponentials. -/
theorem v7_apply (b : Fin 128) :
    val_main_call1_v7 (F := Ideal) x0 x1 x2 x3 x4 x5 (ix1 b) = ∑ k, Ideal.exp (f b k - rowMax (f b)) := by
  have hi : ∀ k, idx_main_call1_v7 (ix1 b) k = ix2 b k := fun k => by
    funext d; match d with | ⟨0, _⟩ => rfl | ⟨1, _⟩ => rfl
  have hz : val_main_call1_cst_1 (F := Ideal) (Shape.Idx.first h_S_) = 0 := Ideal.ofBits_zero_f32
  have he : ∀ k, val_main_call1_v6 (F := Ideal) x0 x1 x2 x3 x4 x5 (ix2 b k) = Ideal.exp (f b k - rowMax (f b)) := fun k => by
    rw [val_main_call1_v6_apply, v5_apply x0 x1 x2 x3 x4 x5 f hf]; rfl
  rw [val_main_call1_v7_apply, hz, zero_add]
  exact Finset.sum_congr rfl fun k _ => by rw [hi, he]

include hf in
/-- The log-softmax of a row. -/
theorem v18_apply (b : Fin 128) (l : Fin 1024) :
    val_main_v18 (F := Ideal) x0 x1 x2 x3 x4 x5 (ix2 b l) = logSoftmax (f b) l := by
  have hi : idx_main_call1_v8 (idx_main_call1_v10 (ix2 b l)) = ix1 b := by
    funext d; match d with | ⟨0, _⟩ => rfl
  rw [val_main_v18_apply, v5_apply x0 x1 x2 x3 x4 x5 f hf, val_main_call1_v10_apply, val_main_call1_v9_apply,
    val_main_call1_v8_apply, hi, v7_apply x0 x1 x2 x3 x4 x5 f hf]
  rfl

/-- The reference's result at an index. -/
theorem v19_apply (act : Fin 128 → Fin 32) (hact : ∀ b, x3 (ix1 b) = BitVec.ofNat 32 (act b).val) (r : Fin 32) (a : Fin 4) (l : Fin 1024) :
    val_main_v19 (F := Ideal) x0 x1 x2 x3 x4 x5 (ix3 r a l)
      = answer x0 x1 x2 x4 x5 (act (sample r a)) (sample r a) l := by
  have hi : idx_main_v19 (ix3 r a l) = ix2 (sample r a) l := by
    funext d; apply Fin.ext
    match d with
    | ⟨0, _⟩ =>
      show ((r.val * 4 + a.val) * 1024 + l.val) / 1024 = r.val * 4 + a.val
      omega
    | ⟨1, _⟩ =>
      show ((r.val * 4 + a.val) * 1024 + l.val) % 1024 = l.val
      omega
  rw [val_main_v19_apply, hi]
  exact v18_apply x0 x1 x2 x3 x4 x5 _ (fun b l => v17_apply x0 x1 x2 x3 x4 x5 act hact b l) (sample r a) l

end Cert.ReferenceIdeal.Hand

end
-- ==== Proof.Range.lean ====
/-
  What the precondition says: every action word is a number below 32.
-/
module

public import proofs.«01_k».proof.Proof.Gen.Pre_actions_in_range
public import proofs.«01_k».proof.Proof.Spec

@[expose] public section

noncomputable section

namespace Cert.Proof

open Idealize.ShloMosaic

/-- A word that is at least 0 and below 32, read signed, is the word of a number below 32. -/
theorem word_in_range (w : BitVec 32) (h : IntOp.andi (IntOp.cmpi .sge w 0#32) (IntOp.cmpi .slt w 32#32) = 1#1) :
    ∃ a : Fin 32, w = BitVec.ofNat 32 a.val := by
  have hb : ∀ p q : Bool, BitVec.ofBool p &&& BitVec.ofBool q = 1#1 → p = true ∧ q = true := by decide
  obtain ⟨h1, h2⟩ := hb _ _ h
  have h1' : (0#32).toInt ≤ w.toInt := BitVec.sle_iff_toInt_le.1 h1
  have h2' : w.toInt < (32#32).toInt := BitVec.slt_iff_toInt_lt.1 h2
  have e0 : (0#32).toInt = 0 := by decide
  have e32 : (32#32).toInt = 32 := by decide
  rw [e0] at h1'; rw [e32] at h2'
  have hl := w.isLt
  have hn : w.toNat < 32 := by
    rw [BitVec.toInt_eq_toNat_cond] at h1' h2'
    split at h1' <;> omega
  exact ⟨⟨w.toNat, hn⟩, by simp⟩

open Cert.Pre_actions_in_range in
/-- An action array the predicate allows holds the words of actions below 32. -/
theorem actions_of_pre (x0 : FVec Ideal S128x1024x1024 .f32) (x1 : FVec Ideal S128x1024 .f32) (x2 : IVec S128x1024 1) (x3 : IVec S128 32)
    (x4 : FVec Ideal S32x1024x1024 .f32) (x5 : FVec Ideal S32x1024 .f32)
    (h : @fn Cert.Pre_actions_in_range.Gen.facts Ideal _ x0 x1 x2 x3 x4 x5 = fun _ => 1#1) :
    ∃ act : Fin 128 → Fin 32, ∀ b, x3 (ix1 b) = BitVec.ofNat 32 (act b).val := by
  have hw : ∀ b : Fin 128, ∃ a : Fin 32, x3 (ix1 b) = BitVec.ofNat 32 a.val := fun b =>
    word_in_range _ (congrFun h (ix1 b))
  exact ⟨fun b => (hw b).choose, fun b => (hw b).choose_spec⟩

end Cert.Proof

end
-- ==== Proof.Equal.lean ====
/-
  The value claim: for actions in range the kernel and the reference end with the same result, since both hold at every
  index the log-softmax of the sample's masked scores.
-/
module

public import proofs.«01_k».proof.Defs
public import proofs.«01_k».proof.Proof.KernelEnd
public import proofs.«01_k».proof.Proof.KernelValue
public import proofs.«01_k».proof.Proof.RefValue
public import proofs.«01_k».proof.Proof.Range
public import proofs.«01_k».proof.Proof.Gen.KernelIdeal
public import proofs.«01_k».proof.Proof.Gen.ReferenceIdeal.Run

@[expose] public section

noncomputable section

namespace Cert.Proof

open Idealize.ShloMosaic Idealize.SL.Sem

/-- Every index of the result is made of a group, a row of it and a position. -/
theorem exists_ix3 (y : (⟨3, ![32, 4, 1024]⟩ : Shape).Idx) : ∃ (r : Fin 32) (a : Fin 4) (l : Fin 1024), y = ix3 r a l :=
  ⟨y 0, y 1, y 2, (ValueIdx.eq_ix3 y).trans (ix3_eq_valueIdx _ _ _).symm⟩

/-- The reference's result is the kernel's, when its arguments are the kernel's and the actions are in range. -/
theorem reference_eq (m : (ℓ : Loc Cert.KernelIdeal.nD Cert.KernelIdeal.τ Cert.KernelIdeal.sig) → Buf (Elt Ideal) ℓ) (c : Dev Cert.KernelIdeal.nD)
    (act : Fin 128 → Fin 32)
    (hact : ∀ b, m ((c.tc : Thread Cert.KernelIdeal.nD Cert.KernelIdeal.τ).loc Cert.KernelIdeal.main_arg3) (ix1 b) = BitVec.ofNat 32 (act b).val) :
    Cert.ReferenceIdeal.Read.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Hand.result (F := Ideal) m c := by
  funext y
  obtain ⟨r, a, l, rfl⟩ := exists_ix3 y
  exact (Cert.ReferenceIdeal.Hand.v19_apply _ _ _ _ _ _ act hact r a l).trans
    (Cert.KernelIdeal.Hand.result_apply m c act hact r a l).symm

/-- Kernel and reference end with the same result array, for actions in range. -/
theorem equal : Cert.algebraic_KernelIdeal_ReferenceIdeal_pre_actions_in_range (hKernelIdeal := Cert.KernelIdeal.Gen.facts)
    (hReferenceIdeal := Cert.ReferenceIdeal.Gen.facts) (hPre_actions_in_range := Cert.Pre_actions_in_range.Gen.facts) := by
  intro m g m' g' hpre hargs
  refine ⟨fun c => Cert.KernelIdeal.Hand.result (F := Ideal) m c, ?_, ?_⟩
  · exact (θ_run _ _ _).mono (fun _ h c => h.1 c) (Cert.KernelIdeal.Hand.run (F := Ideal) m g)
  · refine (θ_run _ _ _).mono (fun r h c => ⟨(h c).1.trans ?_, (h c).2⟩) (Cert.ReferenceIdeal.Value.run (F := Ideal) m' g')
    obtain ⟨act, hact⟩ := actions_of_pre _ _ _ _ _ _ (hpre c)
    obtain ⟨h0, h1, h2, h3, h4, h5⟩ := hargs c
    refine (Cert.ReferenceIdeal.Read.val_main_v19_eq m' c).trans ?_
    rw [h0, h1, h2, h3, h4, h5]
    exact reference_eq m c act hact

end Cert.Proof

end
-- ==== Proof.lean ====
/-
  The claim, assembled: the three frames, the two frames under the precondition (which the plain ones give), the
  correspondence of the kernel's two readings, and the equality of the kernel's and the reference's results.
-/
module

public import proofs.«01_k».proof.Defs
public import proofs.«01_k».proof.Proof.Frames
public import proofs.«01_k».proof.Proof.Equal

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_actions_in_range.Gen.facts,
    frame_kernel, frame_kernel_ideal, fun m g _ => frame_kernel_ideal m g trivial,
    frame_reference, fun m g _ => frame_reference m g trivial, trivial, equal⟩

end Cert.Proof

end
